-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_initialised [hPre_as_initialised : Cert.Pre_as_initialised.Facts] (m : (ℓ : Loc Cert.KernelIdeal.nD Cert.KernelIdeal.τ Cert.KernelIdeal.sig) → Buf (Elt Ideal) ℓ) : Prop :=
  ∀ c : Dev Cert.KernelIdeal.nD,
    (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_initialised [hPre_as_initialised : Cert.Pre_as_initialised.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_as_initialised [hKernelIdeal : Cert.KernelIdeal.Facts] [hPre_as_initialised : Cert.Pre_as_initialised.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_initialised m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_as_initialised [hReferenceIdeal : Cert.ReferenceIdeal.Facts] [hPre_as_initialised : Cert.Pre_as_initialised.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_initialised m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  IdealRules.named_const.Statement Cert.KernelIdeal.κ "clip" .bf16 0x428C#16 ⊤
  ∧ IdealRules.named_const.Statement Cert.KernelIdeal.κ "cubic" .bf16 0x3D37#16 ((12003091 / 268435456 : ℝ) : EReal)
  ∧ IdealRules.named_const.Statement Cert.KernelIdeal.κ "root_2_over_pi" .bf16 0x3F4C#16 ((6693141 / 8388608 : ℝ) : EReal)

def algebraic_KernelIdeal_ReferenceIdeal_pre_as_initialised [hKernelIdeal : Cert.KernelIdeal.Facts] [hReferenceIdeal : Cert.ReferenceIdeal.Facts] [hPre_as_initialised : Cert.Pre_as_initialised.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_initialised m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_as_initialised : Cert.Pre_as_initialised.Facts),
    quiescent_Kernel (hKernel := hKernel)
    ∧ quiescent_KernelIdeal (hKernelIdeal := hKernelIdeal)
    ∧ quiescent_KernelIdeal_pre_as_initialised (hKernelIdeal := hKernelIdeal) (hPre_as_initialised := hPre_as_initialised)
    ∧ quiescent_ReferenceIdeal (hReferenceIdeal := hReferenceIdeal)
    ∧ quiescent_ReferenceIdeal_pre_as_initialised (hReferenceIdeal := hReferenceIdeal) (hPre_as_initialised := hPre_as_initialised)
    ∧ preserves_Kernel_KernelIdeal
    ∧ algebraic_KernelIdeal_ReferenceIdeal_pre_as_initialised (hKernelIdeal := hKernelIdeal) (hReferenceIdeal := hReferenceIdeal) (hPre_as_initialised := hPre_as_initialised)
-- ==== Pre_as_initialised.lean ====
abbrev S4x512x768 : Shape := ⟨3, ![4, 512, 768]⟩
abbrev S4x1024x768 : Shape := ⟨3, ![4, 1024, 768]⟩
abbrev S4x512x2 : Shape := ⟨3, ![4, 512, 2]⟩
abbrev S4x1024x2 : Shape := ⟨3, ![4, 1024, 2]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S_ : Shape := ⟨0, ![]⟩

class Facts : Prop where
  bcast_S_S4x512x768 : S_.BroadcastsInDim S4x512x768 (![] : Fin 0 → Fin S4x512x768.rank)
  bcast_S_S4x1024x768 : S_.BroadcastsInDim S4x1024x768 (![] : Fin 0 → Fin S4x1024x768.rank)
  bcast_S_S768x2304 : S_.BroadcastsInDim S768x2304 (![] : Fin 0 → Fin S768x2304.rank)
  bcast_S_S768x768 : S_.BroadcastsInDim S768x768 (![] : Fin 0 → Fin S768x768.rank)
  bcast_S_S768 : S_.BroadcastsInDim S768 (![] : Fin 0 → Fin S768.rank)
  bcast_S_S2304 : S_.BroadcastsInDim S2304 (![] : Fin 0 → Fin S2304.rank)
  bcast_S_S3072 : S_.BroadcastsInDim S3072 (![] : Fin 0 → Fin S3072.rank)

variable [Facts]

def fn_part3 {F : FTy → Type} [FloatOps F] (main_arg7 : FVec F S2304 .f32) (main_arg17 : FVec F S768 .f32) (main_arg19 : FVec F S768 .f32) (main_arg21 : FVec F S768 .f32) (main_arg23 : FVec F S768 .f32) (main_arg25 : FVec F S3072 .f32) (main_arg27 : FVec F S768 .f32) (main_v2 : IVec S4x512x768 1) (main_v5 : IVec S4x1024x768 1) (main_v8 : IVec S768x2304 1) (main_v27 : IVec S768x768 1) (main_v38 : IVec S768 1) (main_v52 : IVec S768 1) (main_v53 : FVec F S768 .f32) : IVec S4x512x768 1 × IVec S4x1024x768 1 × IVec S768x2304 1 × IVec S768x768 1 × IVec S768 1 × IVec S768 1 × IVec S2304 1 × IVec S3072 1 :=
  let main_v54 : IVec S768 1 := cmpf .oeq main_arg17 main_v53
  let main_v55 : IVec S768 1 := andi main_v52 main_v54
  let main_cst_17 : FVec F S_ .f32 := constant S_ .f32 0x00000000#32
  let main_v56 : FVec F S768 .f32 := broadcastInDim S768 ![] bcast_S_S768 main_cst_17
  let main_v57 : IVec S768 1 := cmpf .oeq main_arg19 main_v56
  let main_v58 : IVec S768 1 := andi main_v55 main_v57
  let main_cst_18 : FVec F S_ .f32 := constant S_ .f32 0x00000000#32
  let main_v59 : FVec F S768 .f32 := broadcastInDim S768 ![] bcast_S_S768 main_cst_18
  let main_v60 : IVec S768 1 := cmpf .oeq main_arg21 main_v59
  let main_v61 : IVec S768 1 := andi main_v58 main_v60
  let main_cst_19 : FVec F S_ .f32 := constant S_ .f32 0x00000000#32
  let main_v62 : FVec F S768 .f32 := broadcastInDim S768 ![] bcast_S_S768 main_cst_19
  let main_v63 : IVec S768 1 := cmpf .oeq main_arg23 main_v62
  let main_v64 : IVec S768 1 := andi main_v61 main_v63
  let main_cst_20 : FVec F S_ .f32 := constant S_ .f32 0x00000000#32
  let main_v65 : FVec F S768 .f32 := broadcastInDim S768 ![] bcast_S_S768 main_cst_20
  let main_v66 : IVec S768 1 := cmpf .oeq main_arg27 main_v65
  let main_v67 : IVec S768 1 := andi main_v64 main_v66
  let main_cst_21 : FVec F S_ .f32 := constant S_ .f32 0x00000000#32
  let main_v68 : FVec F S2304 .f32 := broadcastInDim S2304 ![] bcast_S_S2304 main_cst_21
  let main_v69 : IVec S2304 1 := cmpf .oeq main_arg7 main_v68
  let main_cst_22 : FVec F S_ .f32 := constant S_ .f32 0x00000000#32
  let main_v70 : FVec F S3072 .f32 := broadcastInDim S3072 ![] bcast_S_S3072 main_cst_22
  let main_v71 : IVec S3072 1 := cmpf .oeq main_arg25 main_v70
  (main_v2, main_v5, main_v8, main_v27, main_v38, main_v67, main_v69, main_v71)

def fn_part2 {F : FTy → Type} [FloatOps F] (main_arg5 : FVec F S768 .f32) (main_arg7 : FVec F S2304 .f32) (main_arg9 : FVec F S768 .f32) (main_arg11 : FVec F S768 .f32) (main_arg13 : FVec F S768 .f32) (main_arg15 : FVec F S768 .f32) (main_arg17 : FVec F S768 .f32) (main_arg19 : FVec F S768 .f32) (main_arg21 : FVec F S768 .f32) (main_arg22 : FVec F S768 .f32) (main_arg23 : FVec F S768 .f32) (main_arg25 : FVec F S3072 .f32) (main_arg27 : FVec F S768 .f32) (main_v2 : IVec S4x512x768 1) (main_v5 : IVec S4x1024x768 1) (main_v8 : IVec S768x2304 1) (main_v27 : IVec S768x768 1) (main_v35 : IVec S768 1) (main_cst_10 : FVec F S_ .f32) : IVec S4x512x768 1 × IVec S4x1024x768 1 × IVec S768x2304 1 × IVec S768x768 1 × IVec S768 1 × IVec S768 1 × IVec S2304 1 × IVec S3072 1 :=
  let main_v36 : FVec F S768 .f32 := broadcastInDim S768 ![] bcast_S_S768 main_cst_10
  let main_v37 : IVec S768 1 := cmpf .oeq main_arg22 main_v36
  let main_v38 : IVec S768 1 := andi main_v35 main_v37
  let main_cst_11 : FVec F S_ .f32 := constant S_ .f32 0x00000000#32
  let main_v39 : FVec F S768 .f32 := broadcastInDim S768 ![] bcast_S_S768 main_cst_11
  let main_v40 : IVec S768 1 := cmpf .oeq main_arg5 main_v39
  let main_cst_12 : FVec F S_ .f32 := constant S_ .f32 0x00000000#32
  let main_v41 : FVec F S768 .f32 := broadcastInDim S768 ![] bcast_S_S768 main_cst_12
  let main_v42 : IVec S768 1 := cmpf .oeq main_arg9 main_v41
  let main_v43 : IVec S768 1 := andi main_v40 main_v42
  let main_cst_13 : FVec F S_ .f32 := constant S_ .f32 0x00000000#32
  let main_v44 : FVec F S768 .f32 := broadcastInDim S768 ![] bcast_S_S768 main_cst_13
  let main_v45 : IVec S768 1 := cmpf .oeq main_arg11 main_v44
  let main_v46 : IVec S768 1 := andi main_v43 main_v45
  let main_cst_14 : FVec F S_ .f32 := constant S_ .f32 0x00000000#32
  let main_v47 : FVec F S768 .f32 := broadcastInDim S768 ![] bcast_S_S768 main_cst_14
  let main_v48 : IVec S768 1 := cmpf .oeq main_arg13 main_v47
  let main_v49 : IVec S768 1 := andi main_v46 main_v48
  let main_cst_15 : FVec F S_ .f32 := constant S_ .f32 0x00000000#32
  let main_v50 : FVec F S768 .f32 := broadcastInDim S768 ![] bcast_S_S768 main_cst_15
  let main_v51 : IVec S768 1 := cmpf .oeq main_arg15 main_v50
  let main_v52 : IVec S768 1 := andi main_v49 main_v51
  let main_cst_16 : FVec F S_ .f32 := constant S_ .f32 0x00000000#32
  let main_v53 : FVec F S768 .f32 := broadcastInDim S768 ![] bcast_S_S768 main_cst_16
  fn_part3 (F := F) main_arg7 main_arg17 main_arg19 main_arg21 main_arg23 main_arg25 main_arg27 main_v2 main_v5 main_v8 main_v27 main_v38 main_v52 main_v53

def fn_part1 {F : FTy → Type} [FloatOps F] (main_arg4 : FVec F S768 .f32) (main_arg5 : FVec F S768 .f32) (main_arg7 : FVec F S2304 .f32) (main_arg9 : FVec F S768 .f32) (main_arg10 : FVec F S768 .f32) (main_arg11 : FVec F S768 .f32) (main_arg12 : FVec F S768 .f32) (main_arg13 : FVec F S768 .f32) (main_arg15 : FVec F S768 .f32) (main_arg17 : FVec F S768 .f32) (main_arg18 : FVec F S768x768 .f32) (main_arg19 : FVec F S768 .f32) (main_arg20 : FVec F S768x768 .f32) (main_arg21 : FVec F S768 .f32) (main_arg22 : FVec F S768 .f32) (main_arg23 : FVec F S768 .f32) (main_arg25 : FVec F S3072 .f32) (main_arg27 : FVec F S768 .f32) (main_v2 : IVec S4x512x768 1) (main_v5 : IVec S4x1024x768 1) (main_v8 : IVec S768x2304 1) (main_v15 : IVec S768x768 1) (main_v16 : FVec F S768x768 .f32) (main_v17 : FVec F S768x768 .f32) : IVec S4x512x768 1 × IVec S4x1024x768 1 × IVec S768x2304 1 × IVec S768x768 1 × IVec S768 1 × IVec S768 1 × IVec S2304 1 × IVec S3072 1 :=
  let main_v18 : IVec S768x768 1 := cmpf .olt main_v16 main_v17
  let main_v19 : IVec S768x768 1 := andi main_v15 main_v18
  let main_v20 : FVec F S768x768 .f32 := Host.absf main_arg18
  let main_cst_5 : FVec F S_ .f32 := constant S_ .f32 0x7F800000#32
  let main_v21 : FVec F S768x768 .f32 := broadcastInDim S768x768 ![] bcast_S_S768x768 main_cst_5
  let main_v22 : IVec S768x768 1 := cmpf .olt main_v20 main_v21
  let main_v23 : IVec S768x768 1 := andi main_v19 main_v22
  let main_v24 : FVec F S768x768 .f32 := Host.absf main_arg20
  let main_cst_6 : FVec F S_ .f32 := constant S_ .f32 0x7F800000#32
  let main_v25 : FVec F S768x768 .f32 := broadcastInDim S768x768 ![] bcast_S_S768x768 main_cst_6
  let main_v26 : IVec S768x768 1 := cmpf .olt main_v24 main_v25
  let main_v27 : IVec S768x768 1 := andi main_v23 main_v26
  let main_cst_7 : FVec F S_ .f32 := constant S_ .f32 0x3F800000#32
  let main_v28 : FVec F S768 .f32 := broadcastInDim S768 ![] bcast_S_S768 main_cst_7
  let main_v29 : IVec S768 1 := cmpf .oeq main_arg4 main_v28
  let main_cst_8 : FVec F S_ .f32 := constant S_ .f32 0x3F800000#32
  let main_v30 : FVec F S768 .f32 := broadcastInDim S768 ![] bcast_S_S768 main_cst_8
  let main_v31 : IVec S768 1 := cmpf .oeq main_arg10 main_v30
  let main_v32 : IVec S768 1 := andi main_v29 main_v31
  let main_cst_9 : FVec F S_ .f32 := constant S_ .f32 0x3F800000#32
  let main_v33 : FVec F S768 .f32 := broadcastInDim S768 ![] bcast_S_S768 main_cst_9
  let main_v34 : IVec S768 1 := cmpf .oeq main_arg12 main_v33
  let main_v35 : IVec S768 1 := andi main_v32 main_v34
  let main_cst_10 : FVec F S_ .f32 := constant S_ .f32 0x3F800000#32
  fn_part2 (F := F) main_arg5 main_arg7 main_arg9 main_arg11 main_arg13 main_arg15 main_arg17 main_arg19 main_arg21 main_arg22 main_arg23 main_arg25 main_arg27 main_v2 main_v5 main_v8 main_v27 main_v35 main_cst_10

def fn {F : FTy → Type} [FloatOps F] (main_arg0 : FVec F S4x512x768 .f32) (main_arg1 : FVec F S4x1024x768 .f32) (main_arg2 : IVec S4x512x2 32) (main_arg3 : IVec S4x1024x2 32) (main_arg4 : FVec F S768 .f32) (main_arg5 : FVec F S768 .f32) (main_arg6 : FVec F S768x2304 .f32) (main_arg7 : FVec F S2304 .f32) (main_arg8 : FVec F S768x768 .f32) (main_arg9 : FVec F S768 .f32) (main_arg10 : FVec F S768 .f32) (main_arg11 : FVec F S768 .f32) (main_arg12 : FVec F S768 .f32) (main_arg13 : FVec F S768 .f32) (main_arg14 : FVec F S768x768 .f32) (main_arg15 : FVec F S768 .f32) (main_arg16 : FVec F S768x768 .f32) (main_arg17 : FVec F S768 .f32) (main_arg18 : FVec F S768x768 .f32) (main_arg19 : FVec F S768 .f32) (main_arg20 : FVec F S768x768 .f32) (main_arg21 : FVec F S768 .f32) (main_arg22 : FVec F S768 .f32) (main_arg23 : FVec F S768 .f32) (main_arg24 : FVec F S768x3072 .f32) (main_arg25 : FVec F S3072 .f32) (main_arg26 : FVec F S3072x768 .f32) (main_arg27 : FVec F S768 .f32) : IVec S4x512x768 1 × IVec S4x1024x768 1 × IVec S768x2304 1 × IVec S768x768 1 × IVec S768 1 × IVec S768 1 × IVec S2304 1 × IVec S3072 1 :=
  let main_v0 : FVec F S4x512x768 .f32 := Host.absf main_arg0
  let main_cst : FVec F S_ .f32 := constant S_ .f32 0x7F800000#32
  let main_v1 : FVec F S4x512x768 .f32 := broadcastInDim S4x512x768 ![] bcast_S_S4x512x768 main_cst
  let main_v2 : IVec S4x512x768 1 := cmpf .olt main_v0 main_v1
  let main_v3 : FVec F S4x1024x768 .f32 := Host.absf main_arg1
  let main_cst_0 : FVec F S_ .f32 := constant S_ .f32 0x7F800000#32
  let main_v4 : FVec F S4x1024x768 .f32 := broadcastInDim S4x1024x768 ![] bcast_S_S4x1024x768 main_cst_0
  let main_v5 : IVec S4x1024x768 1 := cmpf .olt main_v3 main_v4
  let main_v6 : FVec F S768x2304 .f32 := Host.absf main_arg6
  let main_cst_1 : FVec F S_ .f32 := constant S_ .f32 0x7F800000#32
  let main_v7 : FVec F S768x2304 .f32 := broadcastInDim S768x2304 ![] bcast_S_S768x2304 main_cst_1
  let main_v8 : IVec S768x2304 1 := cmpf .olt main_v6 main_v7
  let main_v9 : FVec F S768x768 .f32 := Host.absf main_arg8
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_v12 : FVec F S768x768 .f32 := Host.absf main_arg14
  let main_cst_3 : FVec F S_ .f32 := constant S_ .f32 0x7F800000#32
  let main_v13 : FVec F S768x768 .f32 := broadcastInDim S768x768 ![] bcast_S_S768x768 main_cst_3
  let main_v14 : IVec S768x768 1 := cmpf .olt main_v12 main_v13
  let main_v15 : IVec S768x768 1 := andi main_v11 main_v14
  let main_v16 : FVec F S768x768 .f32 := Host.absf main_arg16
  let main_cst_4 : FVec F S_ .f32 := constant S_ .f32 0x7F800000#32
  let main_v17 : FVec F S768x768 .f32 := broadcastInDim S768x768 ![] bcast_S_S768x768 main_cst_4
  fn_part1 (F := F) main_arg4 main_arg5 main_arg7 main_arg9 main_arg10 main_arg11 main_arg12 main_arg13 main_arg15 main_arg17 main_arg18 main_arg19 main_arg20 main_arg21 main_arg22 main_arg23 main_arg25 main_arg27 main_v2 main_v5 main_v8 main_v15 main_v16 main_v17
-- ==== Kernel.lean ====
abbrev S4x512x768 : Shape := ⟨3, ![4, 512, 768]⟩
abbrev S4x1024x768 : Shape := ⟨3, ![4, 1024, 768]⟩
abbrev S4x512x2 : Shape := ⟨3, ![4, 512, 2]⟩
abbrev S4x1024x2 : Shape := ⟨3, ![4, 1024, 2]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S1x512x768 : Shape := ⟨3, ![1, 512, 768]⟩
abbrev S1x1024x768 : Shape := ⟨3, ![1, 1024, 768]⟩
abbrev S8x768x768 : Shape := ⟨3, ![8, 768, 768]⟩
abbrev S8 : Shape := ⟨1, ![8]⟩
abbrev S1 : Shape := ⟨1, ![1]⟩
abbrev S_ : Shape := ⟨0, ![]⟩
abbrev S1x768x768 : Shape := ⟨3, ![1, 768, 768]⟩
abbrev S512x768 : Shape := ⟨2, ![512, 768]⟩
abbrev S1024x768 : Shape := ⟨2, ![1024, 768]⟩
abbrev S512x64 : Shape := ⟨2, ![512, 64]⟩
abbrev S1024x64 : Shape := ⟨2, ![1024, 64]⟩
abbrev S512 : Shape := ⟨1, ![512]⟩
abbrev S512x1 : Shape := ⟨2, ![512, 1]⟩
abbrev S512x2304 : Shape := ⟨2, ![512, 2304]⟩
abbrev S512x128 : Shape := ⟨2, ![512, 128]⟩
abbrev S512x512 : Shape := ⟨2, ![512, 512]⟩
abbrev S1024 : Shape := ⟨1, ![1024]⟩
abbrev S1024x1 : Shape := ⟨2, ![1024, 1]⟩
abbrev S1024x128 : Shape := ⟨2, ![1024, 128]⟩
abbrev S512x1024 : Shape := ⟨2, ![512, 1024]⟩
abbrev S512x3072 : Shape := ⟨2, ![512, 3072]⟩

abbrev nBuf : Space → Nat
  | .hbm => 29
  | .vmem => 15
  | .smem => 0
  | _ => 0

abbrev bufTy : (tb : Table) → Fin (tcTables nBuf tb) → BufTy
  | .hbm, ⟨0, _⟩ => ⟨S4x512x768, .f32⟩
  | .hbm, ⟨1, _⟩ => ⟨S4x1024x768, .f32⟩
  | .hbm, ⟨2, _⟩ => ⟨S4x512x2, .i32⟩
  | .hbm, ⟨3, _⟩ => ⟨S4x1024x2, .i32⟩
  | .hbm, ⟨4, _⟩ => ⟨S768, .f32⟩
  | .hbm, ⟨5, _⟩ => ⟨S768, .f32⟩
  | .hbm, ⟨6, _⟩ => ⟨S768x2304, .f32⟩
  | .hbm, ⟨7, _⟩ => ⟨S2304, .f32⟩
  | .hbm, ⟨8, _⟩ => ⟨S768x768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768x768, .f32⟩
  | .hbm, ⟨15, _⟩ => ⟨S768, .f32⟩
  | .hbm, ⟨16, _⟩ => ⟨S768x768, .f32⟩
  | .hbm, ⟨17, _⟩ => ⟨S768, .f32⟩
  | .hbm, ⟨18, _⟩ => ⟨S768x768, .f32⟩
  | .hbm, ⟨19, _⟩ => ⟨S768, .f32⟩
  | .hbm, ⟨20, _⟩ => ⟨S768x768, .f32⟩
  | .hbm, ⟨21, _⟩ => ⟨S768, .f32⟩
  | .hbm, ⟨22, _⟩ => ⟨S768, .f32⟩
  | .hbm, ⟨23, _⟩ => ⟨S768, .f32⟩
  | .hbm, ⟨24, _⟩ => ⟨S768x3072, .f32⟩
  | .hbm, ⟨25, _⟩ => ⟨S3072, .f32⟩
  | .hbm, ⟨26, _⟩ => ⟨S3072x768, .f32⟩
  | .hbm, ⟨27, _⟩ => ⟨S768, .f32⟩
  | .hbm, ⟨28, _⟩ => ⟨S4x512x768, .f32⟩
  | .local _ .vmem, ⟨0, _⟩ => ⟨S1x512x768, .f32⟩
  | .local _ .vmem, ⟨1, _⟩ => ⟨S1x512x768, .f32⟩
  | .local _ .vmem, ⟨2, _⟩ => ⟨S1x1024x768, .f32⟩
  | .local _ .vmem, ⟨3, _⟩ => ⟨S1x1024x768, .f32⟩
  | .local _ .vmem, ⟨4, _⟩ => ⟨S1x512x768, .f32⟩
  | .local _ .vmem, ⟨5, _⟩ => ⟨S1x512x768, .f32⟩
  | .local _ .vmem, ⟨6, _⟩ => ⟨S768x2304, .bf16⟩
  | .local _ .vmem, ⟨7, _⟩ => ⟨S768x768, .bf16⟩
  | .local _ .vmem, ⟨8, _⟩ => ⟨S768x768, .bf16⟩
  | .local _ .vmem, ⟨9, _⟩ => ⟨S768x768, .bf16⟩
  | .local _ .vmem, ⟨10, _⟩ => ⟨S768x768, .bf16⟩
  | .local _ .vmem, ⟨11, _⟩ => ⟨S768x768, .bf16⟩
  | .local _ .vmem, ⟨12, _⟩ => ⟨S768x3072, .bf16⟩
  | .local _ .vmem, ⟨13, _⟩ => ⟨S3072x768, .bf16⟩
  | .local _ .vmem, ⟨14, _⟩ => ⟨S8x768x768, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "clip" => some ⊤
  | "cubic" => some ((12003091 / 268435456 : ℝ) : EReal)
  | "root_2_over_pi" => some ((6693141 / 8388608 : ℝ) : EReal)
  | _ => none
-- ==== ReferenceIdeal.lean ====
abbrev S4x512x768 : Shape := ⟨3, ![4, 512, 768]⟩
abbrev S4x1024x768 : Shape := ⟨3, ![4, 1024, 768]⟩
abbrev S4x512x2 : Shape := ⟨3, ![4, 512, 2]⟩
abbrev S4x1024x2 : Shape := ⟨3, ![4, 1024, 2]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S_ : Shape := ⟨0, ![]⟩
abbrev S4x512 : Shape := ⟨2, ![4, 512]⟩
abbrev S4x512x1 : Shape := ⟨3, ![4, 512, 1]⟩
abbrev S1x1x768 : Shape := ⟨3, ![1, 1, 768]⟩
abbrev S4x512x2304 : Shape := ⟨3, ![4, 512, 2304]⟩
abbrev S1x1x2304 : Shape := ⟨3, ![1, 1, 2304]⟩
abbrev S4x512x3x12x64 : Shape := ⟨5, ![4, 512, 3, 12, 64]⟩
abbrev S4x12x3x512x64 : Shape := ⟨5, ![4, 12, 3, 512, 64]⟩
abbrev S4x12x1x512x64 : Shape := ⟨5, ![4, 12, 1, 512, 64]⟩
abbrev S4x12x512x64 : Shape := ⟨4, ![4, 12, 512, 64]⟩
abbrev S4x12x64x512 : Shape := ⟨4, ![4, 12, 64, 512]⟩
abbrev S4x12x512x512 : Shape := ⟨4, ![4, 12, 512, 512]⟩
abbrev S4x12x512 : Shape := ⟨3, ![4, 12, 512]⟩
abbrev S4x12x512x1 : Shape := ⟨4, ![4, 12, 512, 1]⟩
abbrev S4x512x12x64 : Shape := ⟨4, ![4, 512, 12, 64]⟩
abbrev S4x1024 : Shape := ⟨2, ![4, 1024]⟩
abbrev S4x1024x1 : Shape := ⟨3, ![4, 1024, 1]⟩
abbrev S4x1024x12x64 : Shape := ⟨4, ![4, 1024, 12, 64]⟩
abbrev S4x12x1024x64 : Shape := ⟨4, ![4, 12, 1024, 64]⟩
abbrev S4x12x64x1024 : Shape := ⟨4, ![4, 12, 64, 1024]⟩
abbrev S4x12x512x1024 : Shape := ⟨4, ![4, 12, 512, 1024]⟩
abbrev S4x512x3072 : Shape := ⟨3, ![4, 512, 3072]⟩
abbrev S1x1x3072 : Shape := ⟨3, ![1, 1, 3072]⟩

abbrev nBuf : Space → Nat
  | .hbm => 252
  | .vmem => 0
  | .smem => 0
  | _ => 0

abbrev hbmTy0_0 (i : Nat) : BufTy := match i % 128 with
  | 0 => ⟨S4x512x768, .f32⟩
  | 1 => ⟨S4x1024x768, .f32⟩
  | 2 => ⟨S4x512x2, .i32⟩
  | 3 => ⟨S4x1024x2, .i32⟩
  | 4 => ⟨S768, .f32⟩
  | 5 => ⟨S768, .f32⟩
  | 6 => ⟨S768x2304, .f32⟩
  | 7 => ⟨S2304, .f32⟩
  | 8 => ⟨S768x768, .f32⟩
  | 9 => ⟨S768, .f32⟩
  | 10 => ⟨S768, .f32⟩
  | 11 => ⟨S768, .f32⟩
  | 12 => ⟨S768, .f32⟩
  | 13 => ⟨S768, .f32⟩
  | 14 => ⟨S768x768, .f32⟩
  | 15 => ⟨S768, .f32⟩
  | 16 => ⟨S768x768, .f32⟩
  | 17 => ⟨S768, .f32⟩
  | 18 => ⟨S768x768, .f32⟩
  | 19 => ⟨S768, .f32⟩
  | 20 => ⟨S768x768, .f32⟩
  | 21 => ⟨S768, .f32⟩
  | 22 => ⟨S768, .f32⟩
  | 23 => ⟨S768, .f32⟩
  | 24 => ⟨S768x3072, .f32⟩
  | 25 => ⟨S3072, .f32⟩
  | 26 => ⟨S3072x768, .f32⟩
  | 27 => ⟨S768, .f32⟩
  | 28 => ⟨S_, .f32⟩
  | 29 => ⟨S4x512, .f32⟩
  | 30 => ⟨S4x512x1, .f32⟩
  | 31 => ⟨S_, .f32⟩
  | 32 => ⟨S4x512x1, .f32⟩
  | 33 => ⟨S4x512x1, .f32⟩
  | 34 => ⟨S4x512x768, .f32⟩
  | 35 => ⟨S4x512x768, .f32⟩
  | 36 => ⟨S4x512x768, .f32⟩
  | 37 => ⟨S4x512x768, .f32⟩
  | 38 => ⟨S4x512x768, .f32⟩
  | 39 => ⟨S_, .f32⟩
  | 40 => ⟨S4x512, .f32⟩
  | 41 => ⟨S4x512x1, .f32⟩
  | 42 => ⟨S_, .f32⟩
  | 43 => ⟨S4x512x1, .f32⟩
  | 44 => ⟨S4x512x1, .f32⟩
  | 45 => ⟨S4x512x768, .f32⟩
  | 46 => ⟨S4x512x768, .f32⟩
  | 47 => ⟨S_, .f32⟩
  | 48 => ⟨S4x512x1, .f32⟩
  | 49 => ⟨S4x512x1, .f32⟩
  | 50 => ⟨S4x512x1, .f32⟩
  | 51 => ⟨S4x512x768, .f32⟩
  | 52 => ⟨S4x512x768, .f32⟩
  | 53 => ⟨S1x1x768, .f32⟩
  | 54 => ⟨S4x512x768, .f32⟩
  | 55 => ⟨S4x512x768, .f32⟩
  | 56 => ⟨S1x1x768, .f32⟩
  | 57 => ⟨S4x512x768, .f32⟩
  | 58 => ⟨S4x512x768, .f32⟩
  | 59 => ⟨S4x512x2304, .f32⟩
  | 60 => ⟨S1x1x2304, .f32⟩
  | 61 => ⟨S4x512x2304, .f32⟩
  | 62 => ⟨S4x512x2304, .f32⟩
  | 63 => ⟨S4x512x3x12x64, .f32⟩
  | 64 => ⟨S4x12x3x512x64, .f32⟩
  | 65 => ⟨S4x12x1x512x64, .f32⟩
  | 66 => ⟨S4x12x512x64, .f32⟩
  | 67 => ⟨S4x12x1x512x64, .f32⟩
  | 68 => ⟨S4x12x512x64, .f32⟩
  | 69 => ⟨S4x12x1x512x64, .f32⟩
  | 70 => ⟨S4x12x512x64, .f32⟩
  | 71 => ⟨S4x12x64x512, .f32⟩
  | 72 => ⟨S4x12x512x512, .f32⟩
  | 73 => ⟨S_, .f32⟩
  | 74 => ⟨S4x12x512x512, .f32⟩
  | 75 => ⟨S4x12x512x512, .f32⟩
  | 76 => ⟨S4x12x512x512, .f32⟩
  | 77 => ⟨S_, .f32⟩
  | 78 => ⟨S4x12x512, .f32⟩
  | 79 => ⟨S4x12x512x1, .f32⟩
  | 80 => ⟨S_, .f32⟩
  | 81 => ⟨S4x12x512x1, .f32⟩
  | 82 => ⟨S4x12x512x1, .f32⟩
  | 83 => ⟨S4x12x512x512, .f32⟩
  | 84 => ⟨S4x12x512x512, .f32⟩
  | 85 => ⟨S4x12x512x64, .f32⟩
  | 86 => ⟨S4x512x12x64, .f32⟩
  | 87 => ⟨S4x512x768, .f32⟩
  | 88 => ⟨S4x512x768, .f32⟩
  | 89 => ⟨S1x1x768, .f32⟩
  | 90 => ⟨S4x512x768, .f32⟩
  | 91 => ⟨S4x512x768, .f32⟩
  | 92 => ⟨S4x512x768, .f32⟩
  | 93 => ⟨S_, .f32⟩
  | 94 => ⟨S4x1024, .f32⟩
  | 95 => ⟨S4x1024x1, .f32⟩
  | 96 => ⟨S_, .f32⟩
  | 97 => ⟨S4x1024x1, .f32⟩
  | 98 => ⟨S4x1024x1, .f32⟩
  | 99 => ⟨S4x1024x768, .f32⟩
  | 100 => ⟨S4x1024x768, .f32⟩
  | 101 => ⟨S4x1024x768, .f32⟩
  | 102 => ⟨S4x1024x768, .f32⟩
  | 103 => ⟨S4x1024x768, .f32⟩
  | 104 => ⟨S_, .f32⟩
  | 105 => ⟨S4x1024, .f32⟩
  | 106 => ⟨S4x1024x1, .f32⟩
  | 107 => ⟨S_, .f32⟩
  | 108 => ⟨S4x1024x1, .f32⟩
  | 109 => ⟨S4x1024x1, .f32⟩
  | 110 => ⟨S4x1024x768, .f32⟩
  | 111 => ⟨S4x1024x768, .f32⟩
  | 112 => ⟨S_, .f32⟩
  | 113 => ⟨S4x1024x1, .f32⟩
  | 114 => ⟨S4x1024x1, .f32⟩
  | 115 => ⟨S4x1024x1, .f32⟩
  | 116 => ⟨S4x1024x768, .f32⟩
  | 117 => ⟨S4x1024x768, .f32⟩
  | 118 => ⟨S1x1x768, .f32⟩
  | 119 => ⟨S4x1024x768, .f32⟩
  | 120 => ⟨S4x1024x768, .f32⟩
  | 121 => ⟨S1x1x768, .f32⟩
  | 122 => ⟨S4x1024x768, .f32⟩
  | 123 => ⟨S4x1024x768, .f32⟩
  | 124 => ⟨S_, .f32⟩
  | 125 => ⟨S4x512, .f32⟩
  | 126 => ⟨S4x512x1, .f32⟩
  | 127 => ⟨S_, .f32⟩
  | _ => ⟨S4x512x768, .f32⟩

abbrev hbmTy0_1 (i : Nat) : BufTy := match i % 128 with
  | 0 => ⟨S4x512x1, .f32⟩
  | 1 => ⟨S4x512x1, .f32⟩
  | 2 => ⟨S4x512x768, .f32⟩
  | 3 => ⟨S4x512x768, .f32⟩
  | 4 => ⟨S4x512x768, .f32⟩
  | 5 => ⟨S4x512x768, .f32⟩
  | 6 => ⟨S4x512x768, .f32⟩
  | 7 => ⟨S_, .f32⟩
  | 8 => ⟨S4x512, .f32⟩
  | 9 => ⟨S4x512x1, .f32⟩
  | 10 => ⟨S_, .f32⟩
  | 11 => ⟨S4x512x1, .f32⟩
  | 12 => ⟨S4x512x1, .f32⟩
  | 13 => ⟨S4x512x768, .f32⟩
  | 14 => ⟨S4x512x768, .f32⟩
  | 15 => ⟨S_, .f32⟩
  | 16 => ⟨S4x512x1, .f32⟩
  | 17 => ⟨S4x512x1, .f32⟩
  | 18 => ⟨S4x512x1, .f32⟩
  | 19 => ⟨S4x512x768, .f32⟩
  | 20 => ⟨S4x512x768, .f32⟩
  | 21 => ⟨S1x1x768, .f32⟩
  | 22 => ⟨S4x512x768, .f32⟩
  | 23 => ⟨S4x512x768, .f32⟩
  | 24 => ⟨S1x1x768, .f32⟩
  | 25 => ⟨S4x512x768, .f32⟩
  | 26 => ⟨S4x512x768, .f32⟩
  | 27 => ⟨S4x512x768, .f32⟩
  | 28 => ⟨S1x1x768, .f32⟩
  | 29 => ⟨S4x512x768, .f32⟩
  | 30 => ⟨S4x512x768, .f32⟩
  | 31 => ⟨S4x512x12x64, .f32⟩
  | 32 => ⟨S4x12x512x64, .f32⟩
  | 33 => ⟨S4x1024x768, .f32⟩
  | 34 => ⟨S1x1x768, .f32⟩
  | 35 => ⟨S4x1024x768, .f32⟩
  | 36 => ⟨S4x1024x768, .f32⟩
  | 37 => ⟨S4x1024x12x64, .f32⟩
  | 38 => ⟨S4x12x1024x64, .f32⟩
  | 39 => ⟨S4x1024x768, .f32⟩
  | 40 => ⟨S1x1x768, .f32⟩
  | 41 => ⟨S4x1024x768, .f32⟩
  | 42 => ⟨S4x1024x768, .f32⟩
  | 43 => ⟨S4x1024x12x64, .f32⟩
  | 44 => ⟨S4x12x1024x64, .f32⟩
  | 45 => ⟨S4x12x64x1024, .f32⟩
  | 46 => ⟨S4x12x512x1024, .f32⟩
  | 47 => ⟨S_, .f32⟩
  | 48 => ⟨S4x12x512x1024, .f32⟩
  | 49 => ⟨S4x12x512x1024, .f32⟩
  | 50 => ⟨S4x12x512x1024, .f32⟩
  | 51 => ⟨S_, .f32⟩
  | 52 => ⟨S4x12x512, .f32⟩
  | 53 => ⟨S4x12x512x1, .f32⟩
  | 54 => ⟨S_, .f32⟩
  | 55 => ⟨S4x12x512x1, .f32⟩
  | 56 => ⟨S4x12x512x1, .f32⟩
  | 57 => ⟨S4x12x512x1024, .f32⟩
  | 58 => ⟨S4x12x512x1024, .f32⟩
  | 59 => ⟨S4x12x512x64, .f32⟩
  | 60 => ⟨S4x512x12x64, .f32⟩
  | 61 => ⟨S4x512x768, .f32⟩
  | 62 => ⟨S4x512x768, .f32⟩
  | 63 => ⟨S1x1x768, .f32⟩
  | 64 => ⟨S4x512x768, .f32⟩
  | 65 => ⟨S4x512x768, .f32⟩
  | 66 => ⟨S4x512x768, .f32⟩
  | 67 => ⟨S_, .f32⟩
  | 68 => ⟨S4x512, .f32⟩
  | 69 => ⟨S4x512x1, .f32⟩
  | 70 => ⟨S_, .f32⟩
  | 71 => ⟨S4x512x1, .f32⟩
  | 72 => ⟨S4x512x1, .f32⟩
  | 73 => ⟨S4x512x768, .f32⟩
  | 74 => ⟨S4x512x768, .f32⟩
  | 75 => ⟨S4x512x768, .f32⟩
  | 76 => ⟨S4x512x768, .f32⟩
  | 77 => ⟨S4x512x768, .f32⟩
  | 78 => ⟨S_, .f32⟩
  | 79 => ⟨S4x512, .f32⟩
  | 80 => ⟨S4x512x1, .f32⟩
  | 81 => ⟨S_, .f32⟩
  | 82 => ⟨S4x512x1, .f32⟩
  | 83 => ⟨S4x512x1, .f32⟩
  | 84 => ⟨S4x512x768, .f32⟩
  | 85 => ⟨S4x512x768, .f32⟩
  | 86 => ⟨S_, .f32⟩
  | 87 => ⟨S4x512x1, .f32⟩
  | 88 => ⟨S4x512x1, .f32⟩
  | 89 => ⟨S4x512x1, .f32⟩
  | 90 => ⟨S4x512x768, .f32⟩
  | 91 => ⟨S4x512x768, .f32⟩
  | 92 => ⟨S1x1x768, .f32⟩
  | 93 => ⟨S4x512x768, .f32⟩
  | 94 => ⟨S4x512x768, .f32⟩
  | 95 => ⟨S1x1x768, .f32⟩
  | 96 => ⟨S4x512x768, .f32⟩
  | 97 => ⟨S4x512x768, .f32⟩
  | 98 => ⟨S4x512x3072, .f32⟩
  | 99 => ⟨S1x1x3072, .f32⟩
  | 100 => ⟨S4x512x3072, .f32⟩
  | 101 => ⟨S4x512x3072, .f32⟩
  | 102 => ⟨S4x512x3072, .f32⟩
  | 103 => ⟨S4x512x3072, .f32⟩
  | 104 => ⟨S_, .f32⟩
  | 105 => ⟨S4x512x3072, .f32⟩
  | 106 => ⟨S4x512x3072, .f32⟩
  | 107 => ⟨S4x512x3072, .f32⟩
  | 108 => ⟨S_, .f32⟩
  | 109 => ⟨S4x512x3072, .f32⟩
  | 110 => ⟨S4x512x3072, .f32⟩
  | 111 => ⟨S4x512x3072, .f32⟩
  | 112 => ⟨S_, .f32⟩
  | 113 => ⟨S4x512x3072, .f32⟩
  | 114 => ⟨S4x512x3072, .f32⟩
  | 115 => ⟨S_, .f32⟩
  | 116 => ⟨S4x512x3072, .f32⟩
  | 117 => ⟨S4x512x3072, .f32⟩
  | 118 => ⟨S4x512x3072, .f32⟩
  | 119 => ⟨S4x512x768, .f32⟩
  | 120 => ⟨S1x1x768, .f32⟩
  | 121 => ⟨S4x512x768, .f32⟩
  | 122 => ⟨S4x512x768, .f32⟩
  | 123 => ⟨S4x512x768, .f32⟩
  | _ => ⟨S4x512x768, .f32⟩

abbrev hbmTy (i : Nat) : BufTy := match i / 128 with
  | 0 => hbmTy0_0 i
  | 1 => hbmTy0_1 i
  | _ => ⟨S4x512x768, .f32⟩

abbrev bufTy : (tb : Table) → Fin (tcTables nBuf tb) → BufTy
  | .hbm, ⟨i, _⟩ => hbmTy i
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_3 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_4 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_5 : Ref sig .tc := ⟨.hbm, 77, rfl⟩
abbrev main_v43 : Ref sig .tc := ⟨.hbm, 78, rfl⟩
abbrev main_v44 : Ref sig .tc := ⟨.hbm, 79, rfl⟩
abbrev main_cst_6 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_7 : Ref sig .tc := ⟨.hbm, 93, rfl⟩
abbrev main_v57 : Ref sig .tc := ⟨.hbm, 94, rfl⟩
abbrev main_v58 : Ref sig .tc := ⟨.hbm, 95, rfl⟩
abbrev main_cst_8 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_9 : Ref sig .tc := ⟨.hbm, 104, rfl⟩
abbrev main_v66 : Ref sig .tc := ⟨.hbm, 105, rfl⟩
abbrev main_v67 : Ref sig .tc := ⟨.hbm, 106, rfl⟩
abbrev main_cst_10 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_11 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_12 : Ref sig .tc := ⟨.hbm, 124, rfl⟩
abbrev main_v83 : Ref sig .tc := ⟨.hbm, 125, rfl⟩
abbrev main_v84 : Ref sig .tc := ⟨.hbm, 126, rfl⟩
abbrev main_cst_13 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_14 : Ref sig .tc := ⟨.hbm, 135, rfl⟩
abbrev main_v92 : Ref sig .tc := ⟨.hbm, 136, rfl⟩
abbrev main_v93 : Ref sig .tc := ⟨.hbm, 137, rfl⟩
abbrev main_cst_15 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_16 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_17 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_18 : Ref sig .tc := ⟨.hbm, 179, rfl⟩
abbrev main_v132 : Ref sig .tc := ⟨.hbm, 180, rfl⟩
abbrev main_v133 : Ref sig .tc := ⟨.hbm, 181, rfl⟩
abbrev main_cst_19 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_20 : Ref sig .tc := ⟨.hbm, 195, rfl⟩
abbrev main_v146 : Ref sig .tc := ⟨.hbm, 196, rfl⟩
abbrev main_v147 : Ref sig .tc := ⟨.hbm, 197, rfl⟩
abbrev main_cst_21 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_22 : Ref sig .tc := ⟨.hbm, 206, rfl⟩
abbrev main_v155 : Ref sig .tc := ⟨.hbm, 207, rfl⟩
abbrev main_v156 : Ref sig .tc := ⟨.hbm, 208, rfl⟩
abbrev main_cst_23 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_24 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_cst_25 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_cst_26 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_cst_27 : Ref sig .tc := ⟨.hbm, 240, rfl⟩
abbrev main_v184 : Ref sig .tc := ⟨.hbm, 241, rfl⟩
abbrev main_v185 : Ref sig .tc := ⟨.hbm, 242, rfl⟩
abbrev main_cst_28 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩

abbrev nD : Nat := 1
abbrev τ : Topo := Topo.v7x

variable {F : FTy → Type} [FloatOps F]
-- ==== Proof.Kept.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ViewIndex
public import proofs.«01_k».proof.Proof.Block
public import proofs.«01_k».proof.Proof.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## What a landing slot reads -/

/-- A landing slot, as a transfer names it. -/
abbrev slotV (j : ℕ) (hj : ∀ a, (![j, 0, 0] : Fin 3 → ℕ) a + S1x768x768.size a ≤ S8x768x768.size a) (hs : ∀ a, (Rect.unit (s := S8x768x768) ![j, 0, 0] S1x768x768.size hj).stride a = 1)
    (hq : S1x768x768.Squeezes S768x768) : View sig .tc .vmem S768x768 .f32 :=
  ((scStage.slice (Rect.unit (s := S8x768x768) ![j, 0, 0] S1x768x768.size hj) hs).squeeze S768x768 hq).view

/-- A tile as a load of a slot returns it: with a leading axis of extent one. -/
def sqz (w : S768x768.Idx → Elt F .f32) : Vec F S1x768x768 .f32 := fun x => w ((Shape.reshapeEquiv squeezes_S1x768x768_S768x768.numel_eq).symm x)

theorem slot_read (k : ℕ) (hk hk' hs hq) (f : S8x768x768.Idx → Elt F .f32) (w : S768x768.Idx → Elt F .f32) :
    View.readAt (Elt F) scStage.view (Rect.unit (s := S8x768x768) ![k, 0, 0] S1x768x768.size hk').toLoadRect (View.write (Elt F) (slotV k hk hs hq) f w Finset.univ) = sqz w := by
  funext x
  have h := View.read_write_reshape (Val := Elt F) (scStage.view.slice (Rect.unit (s := S8x768x768) ![k, 0, 0] S1x768x768.size hk)) squeezes_S1x768x768_S768x768.numel_eq f w
    ((Shape.reshapeEquiv squeezes_S1x768x768_S768x768.numel_eq).symm x)
  rw [Equiv.apply_symm_apply] at h
  exact h

theorem slot_skip (j k : ℕ) (hj hk hs hq) (hne : j ≠ k) (f : S8x768x768.Idx → Elt F .f32) (w : S768x768.Idx → Elt F .f32) :
    View.readAt (Elt F) scStage.view (Rect.unit (s := S8x768x768) ![k, 0, 0] S1x768x768.size hk).toLoadRect (View.write (Elt F) (slotV j hj hs hq) f w Finset.univ)
      = View.readAt (Elt F) scStage.view (Rect.unit (s := S8x768x768) ![k, 0, 0] S1x768x768.size hk).toLoadRect f := by
  refine View.readAt_congr fun i hi => View.write_of_not_mem _ _ _ ?_
  intro hmem
  obtain ⟨x, -, hx⟩ := Finset.mem_map.mp hmem
  obtain ⟨z, hz, hz'⟩ := Finset.mem_map.mp hi
  obtain ⟨u, rfl⟩ := (Rect.unit (s := S8x768x768) ![k, 0, 0] S1x768x768.size hk).exists_idx_of_mem hz
  have h0 := congrArg (fun (q : S8x768x768.Idx) => (q 0).val) (hx.trans hz'.symm)
  have e1 : ∀ v : S1x768x768.Idx, (((Rect.unit (s := S8x768x768) ![k, 0, 0] S1x768x768.size hk).emb v) 0).val = k := by
    intro v; show k + 1 * (v 0).val = k
    have := (v 0).isLt; have e : S1x768x768.size 0 = 1 := rfl; omega
  have e2 : ∀ v : S1x768x768.Idx, (((Rect.unit (s := S8x768x768) ![j, 0, 0] S1x768x768.size hj).emb v) 0).val = j := by
    intro v; show j + 1 * (v 0).val = j
    have := (v 0).isLt; have e : S1x768x768.size 0 = 1 := rfl; omega
  exact hne ((e2 _).symm.trans (h0.trans (e1 _)))

/-! ## The kept weights -/

/-- The pieces stored in `scQkv` at the first point. -/
def keptQkvL (c : Dev nD) (w : BufOf (F := F) c hbQkv) : List (View.Piece (Elt F) S768x2304 .bf16) :=
  [⟨Rect.unit ![0, 1536] S768x768.size inb_S768x2304_S768x768_0_1536, k0_pay5 (sqz (View.read (Elt F) (hbQkv.slice (Rect.unit (s := S768x2304) ![0, 1536] S768x768.size inb_S768x2304_S768x768_0_1536) (fun _ => rfl)).view w))⟩,
   ⟨Rect.unit ![0, 768] S768x768.size inb_S768x2304_S768x768_0_768, k0_pay4 (sqz (View.read (Elt F) (hbQkv.slice (Rect.unit (s := S768x2304) ![0, 768] S768x768.size inb_S768x2304_S768x768_0_768) (fun _ => rfl)).view w))⟩,
   ⟨Rect.unit ![0, 0] S768x768.size inb_S768x2304_S768x768_0_0, k0_pay3 (k0_pay2 (sqz (View.read (Elt F) (hbQkv.slice (Rect.unit (s := S768x2304) ![0, 0] S768x768.size inb_S768x2304_S768x768_0_0) (fun _ => rfl)).view w)))⟩]
/-- What `scQkv` holds from the first point on. -/
def keptQkv (c : Dev nD) (w : BufOf (F := F) c hbQkv) : Vec F S768x2304 .bf16 := View.canon (keptQkvL c w)

/-- The pieces stored in `scAp` at the first point. -/
def keptApL (c : Dev nD) (w : BufOf (F := F) c hbAp) : List (View.Piece (Elt F) S768x768 .bf16) :=
  [⟨Rect.unit ![0, 0] S768x768.size inb_S768x768_S768x768_0_0, k0_pay6 (sqz (View.read (Elt F) (hbAp.slice (Rect.unit (s := S768x768) ![0, 0] S768x768.size inb_S768x768_S768x768_0_0) (fun _ => rfl)).view w))⟩]
/-- What `scAp` holds from the first point on. -/
def keptAp (c : Dev nD) (w : BufOf (F := F) c hbAp) : Vec F S768x768 .bf16 := View.canon (keptApL c w)

/-- The pieces stored in `scQ` at the first point. -/
def keptQL (c : Dev nD) (w : BufOf (F := F) c hbQ) : List (View.Piece (Elt F) S768x768 .bf16) :=
  [⟨Rect.unit ![0, 0] S768x768.size inb_S768x768_S768x768_0_0, k0_pay10 (sqz (View.read (Elt F) (hbQ.slice (Rect.unit (s := S768x768) ![0, 0] S768x768.size inb_S768x768_S768x768_0_0) (fun _ => rfl)).view w))⟩]
/-- What `scQ` holds from the first point on. -/
def keptQ (c : Dev nD) (w : BufOf (F := F) c hbQ) : Vec F S768x768 .bf16 := View.canon (keptQL c w)

/-- The pieces stored in `scK` at the first point. -/
def keptKL (c : Dev nD) (w : BufOf (F := F) c hbK) : List (View.Piece (Elt F) S768x768 .bf16) :=
  [⟨Rect.unit ![0, 0] S768x768.size inb_S768x768_S768x768_0_0, k0_pay7 (sqz (View.read (Elt F) (hbK.slice (Rect.unit (s := S768x768) ![0, 0] S768x768.size inb_S768x768_S768x768_0_0) (fun _ => rfl)).view w))⟩]
/-- What `scK` holds from the first point on. -/
def keptK (c : Dev nD) (w : BufOf (F := F) c hbK) : Vec F S768x768 .bf16 := View.canon (keptKL c w)

/-- The pieces stored in `scV` at the first point. -/
def keptVL (c : Dev nD) (w : BufOf (F := F) c hbV) : List (View.Piece (Elt F) S768x768 .bf16) :=
  [⟨Rect.unit ![0, 0] S768x768.size inb_S768x768_S768x768_0_0, k0_pay9 (k0_pay8 (sqz (View.read (Elt F) (hbV.slice (Rect.unit (s := S768x768) ![0, 0] S768x768.size inb_S768x768_S768x768_0_0) (fun _ => rfl)).view w)))⟩]
/-- What `scV` holds from the first point on. -/
def keptV (c : Dev nD) (w : BufOf (F := F) c hbV) : Vec F S768x768 .bf16 := View.canon (keptVL c w)

/-- The pieces stored in `scCp` at the first point. -/
def keptCpL (c : Dev nD) (w : BufOf (F := F) c hbCp) : List (View.Piece (Elt F) S768x768 .bf16) :=
  [⟨Rect.unit ![0, 0] S768x768.size inb_S768x768_S768x768_0_0, k0_pay18 (sqz (View.read (Elt F) (hbCp.slice (Rect.unit (s := S768x768) ![0, 0] S768x768.size inb_S768x768_S768x768_0_0) (fun _ => rfl)).view w))⟩]
/-- What `scCp` holds from the first point on. -/
def keptCp (c : Dev nD) (w : BufOf (F := F) c hbCp) : Vec F S768x768 .bf16 := View.canon (keptCpL c w)

/-- The pieces stored in `scFc1` at the first point. -/
def keptFc1L (c : Dev nD) (w : BufOf (F := F) c hbFc1) : List (View.Piece (Elt F) S768x3072 .bf16) :=
  [⟨Rect.unit ![0, 2304] S768x768.size inb_S768x3072_S768x768_0_2304, k0_pay14 (sqz (View.read (Elt F) (hbFc1.slice (Rect.unit (s := S768x3072) ![0, 2304] S768x768.size inb_S768x3072_S768x768_0_2304) (fun _ => rfl)).view w))⟩,
   ⟨Rect.unit ![0, 1536] S768x768.size inb_S768x3072_S768x768_0_1536, k0_pay13 (sqz (View.read (Elt F) (hbFc1.slice (Rect.unit (s := S768x3072) ![0, 1536] S768x768.size inb_S768x3072_S768x768_0_1536) (fun _ => rfl)).view w))⟩,
   ⟨Rect.unit ![0, 768] S768x768.size inb_S768x3072_S768x768_0_768, k0_pay12 (sqz (View.read (Elt F) (hbFc1.slice (Rect.unit (s := S768x3072) ![0, 768] S768x768.size inb_S768x3072_S768x768_0_768) (fun _ => rfl)).view w))⟩,
   ⟨Rect.unit ![0, 0] S768x768.size inb_S768x3072_S768x768_0_0, k0_pay11 (sqz (View.read (Elt F) (hbFc1.slice (Rect.unit (s := S768x3072) ![0, 0] S768x768.size inb_S768x3072_S768x768_0_0) (fun _ => rfl)).view w))⟩]
/-- What `scFc1` holds from the first point on. -/
def keptFc1 (c : Dev nD) (w : BufOf (F := F) c hbFc1) : Vec F S768x3072 .bf16 := View.canon (keptFc1L c w)

/-- The pieces stored in `scFc2` at the first point. -/
def keptFc2L (c : Dev nD) (w : BufOf (F := F) c hbFc2) : List (View.Piece (Elt F) S3072x768 .bf16) :=
  [⟨Rect.unit ![2304, 0] S768x768.size inb_S3072x768_S768x768_2304_0, k0_pay73 (sqz (View.read (Elt F) (hbFc2.slice (Rect.unit (s := S3072x768) ![2304, 0] S768x768.size inb_S3072x768_S768x768_2304_0) (fun _ => rfl)).view w))⟩,
   ⟨Rect.unit ![1536, 0] S768x768.size inb_S3072x768_S768x768_1536_0, k0_pay17 (sqz (View.read (Elt F) (hbFc2.slice (Rect.unit (s := S3072x768) ![1536, 0] S768x768.size inb_S3072x768_S768x768_1536_0) (fun _ => rfl)).view w))⟩,
   ⟨Rect.unit ![768, 0] S768x768.size inb_S3072x768_S768x768_768_0, k0_pay16 (sqz (View.read (Elt F) (hbFc2.slice (Rect.unit (s := S3072x768) ![768, 0] S768x768.size inb_S3072x768_S768x768_768_0) (fun _ => rfl)).view w))⟩,
   ⟨Rect.unit ![0, 0] S768x768.size inb_S3072x768_S768x768_0_0, k0_pay15 (sqz (View.read (Elt F) (hbFc2.slice (Rect.unit (s := S3072x768) ![0, 0] S768x768.size inb_S3072x768_S768x768_0_0) (fun _ => rfl)).view w))⟩]
/-- What `scFc2` holds from the first point on. -/
def keptFc2 (c : Dev nD) (w : BufOf (F := F) c hbFc2) : Vec F S3072x768 .bf16 := View.canon (keptFc2L c w)

theorem v608_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (fs : BufOf (F := F) c scStage) :
    firstRun.sl.v608 c w0 w1 w2 w3 w4 w5 fs = sqz (View.read (Elt F) (hbQkv.slice (Rect.unit (s := S768x2304) ![0, 0] S768x768.size inb_S768x2304_S768x768_0_0) (fun _ => rfl)).view w0) := by
  unfold firstRun.sl.v608
  repeat refine (slot_skip _ _ _ _ _ _ (by decide) _ _).trans ?_
  exact slot_read _ _ _ _ _ _ _
theorem v626_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.v626 c w0 w1 w2 w3 w4 w5 w6 fs = sqz (View.read (Elt F) (hbQkv.slice (Rect.unit (s := S768x2304) ![0, 768] S768x768.size inb_S768x2304_S768x768_0_768) (fun _ => rfl)).view w0) := by
  unfold firstRun.sl.v626
  repeat refine (slot_skip _ _ _ _ _ _ (by decide) _ _).trans ?_
  exact slot_read _ _ _ _ _ _ _
theorem v642_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.v642 c w0 w1 w2 w3 w4 w5 w6 fs = sqz (View.read (Elt F) (hbQkv.slice (Rect.unit (s := S768x2304) ![0, 1536] S768x768.size inb_S768x2304_S768x768_0_1536) (fun _ => rfl)).view w0) := by
  unfold firstRun.sl.v642
  repeat refine (slot_skip _ _ _ _ _ _ (by decide) _ _).trans ?_
  exact slot_read _ _ _ _ _ _ _
theorem v658_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.v658 c w0 w1 w2 w3 w4 w5 w6 fs = sqz (View.read (Elt F) (hbAp.slice (Rect.unit (s := S768x768) ![0, 0] S768x768.size inb_S768x768_S768x768_0_0) (fun _ => rfl)).view w1) := by
  unfold firstRun.sl.v658
  repeat refine (slot_skip _ _ _ _ _ _ (by decide) _ _).trans ?_
  exact slot_read _ _ _ _ _ _ _
theorem v674_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.v674 c w0 w1 w2 w3 w4 w5 w6 fs = sqz (View.read (Elt F) (hbK.slice (Rect.unit (s := S768x768) ![0, 0] S768x768.size inb_S768x768_S768x768_0_0) (fun _ => rfl)).view w3) := by
  unfold firstRun.sl.v674
  repeat refine (slot_skip _ _ _ _ _ _ (by decide) _ _).trans ?_
  exact slot_read _ _ _ _ _ _ _
theorem v690_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v690 c w0 w1 w2 w3 w4 w5 w6 w7 fs = sqz (View.read (Elt F) (hbV.slice (Rect.unit (s := S768x768) ![0, 0] S768x768.size inb_S768x768_S768x768_0_0) (fun _ => rfl)).view w4) := by
  unfold firstRun.sl.v690
  repeat refine (slot_skip _ _ _ _ _ _ (by decide) _ _).trans ?_
  exact slot_read _ _ _ _ _ _ _
theorem v706_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v706 c w0 w1 w2 w3 w4 w5 w6 w7 fs = sqz (View.read (Elt F) (hbQ.slice (Rect.unit (s := S768x768) ![0, 0] S768x768.size inb_S768x768_S768x768_0_0) (fun _ => rfl)).view w2) := by
  unfold firstRun.sl.v706
  repeat refine (slot_skip _ _ _ _ _ _ (by decide) _ _).trans ?_
  exact slot_read _ _ _ _ _ _ _
theorem v724_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v724 c w0 w1 w2 w3 w4 w5 w6 w7 fs = sqz (View.read (Elt F) (hbCp.slice (Rect.unit (s := S768x768) ![0, 0] S768x768.size inb_S768x768_S768x768_0_0) (fun _ => rfl)).view w5) := by
  unfold firstRun.sl.v724
  repeat refine (slot_skip _ _ _ _ _ _ (by decide) _ _).trans ?_
  exact slot_read _ _ _ _ _ _ _
theorem v568_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v568 c w0 w1 w2 w3 w4 w5 w6 w7 fs = sqz (View.read (Elt F) (hbFc1.slice (Rect.unit (s := S768x3072) ![0, 0] S768x768.size inb_S768x3072_S768x768_0_0) (fun _ => rfl)).view w6) := by
  unfold firstRun.sl.v568
  repeat refine (slot_skip _ _ _ _ _ _ (by decide) _ _).trans ?_
  exact slot_read _ _ _ _ _ _ _
theorem v579_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v579 c w0 w1 w2 w3 w4 w5 w6 w7 fs = sqz (View.read (Elt F) (hbFc1.slice (Rect.unit (s := S768x3072) ![0, 768] S768x768.size inb_S768x3072_S768x768_0_768) (fun _ => rfl)).view w6) := by
  unfold firstRun.sl.v579
  repeat refine (slot_skip _ _ _ _ _ _ (by decide) _ _).trans ?_
  exact slot_read _ _ _ _ _ _ _
theorem v590_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v590 c w0 w1 w2 w3 w4 w5 w6 w7 fs = sqz (View.read (Elt F) (hbFc1.slice (Rect.unit (s := S768x3072) ![0, 1536] S768x768.size inb_S768x3072_S768x768_0_1536) (fun _ => rfl)).view w6) := by
  unfold firstRun.sl.v590
  repeat refine (slot_skip _ _ _ _ _ _ (by decide) _ _).trans ?_
  exact slot_read _ _ _ _ _ _ _
theorem v601_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v601 c w0 w1 w2 w3 w4 w5 w6 w7 fs = sqz (View.read (Elt F) (hbFc1.slice (Rect.unit (s := S768x3072) ![0, 2304] S768x768.size inb_S768x3072_S768x768_0_2304) (fun _ => rfl)).view w6) := by
  unfold firstRun.sl.v601
  repeat refine (slot_skip _ _ _ _ _ _ (by decide) _ _).trans ?_
  exact slot_read _ _ _ _ _ _ _
theorem v612_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v612 c w0 w1 w2 w3 w4 w5 w6 w7 fs = sqz (View.read (Elt F) (hbFc2.slice (Rect.unit (s := S3072x768) ![0, 0] S768x768.size inb_S3072x768_S768x768_0_0) (fun _ => rfl)).view w7) := by
  unfold firstRun.sl.v612
  repeat refine (slot_skip _ _ _ _ _ _ (by decide) _ _).trans ?_
  exact slot_read _ _ _ _ _ _ _
theorem v623_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v623 c w0 w1 w2 w3 w4 w5 w6 w7 fs = sqz (View.read (Elt F) (hbFc2.slice (Rect.unit (s := S3072x768) ![768, 0] S768x768.size inb_S3072x768_S768x768_768_0) (fun _ => rfl)).view w7) := by
  unfold firstRun.sl.v623
  repeat refine (slot_skip _ _ _ _ _ _ (by decide) _ _).trans ?_
  exact slot_read _ _ _ _ _ _ _
theorem v634_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v634 c w0 w1 w2 w3 w4 w5 w6 w7 fs = sqz (View.read (Elt F) (hbFc2.slice (Rect.unit (s := S3072x768) ![1536, 0] S768x768.size inb_S3072x768_S768x768_1536_0) (fun _ => rfl)).view w7) := by
  unfold firstRun.sl.v634
  repeat refine (slot_skip _ _ _ _ _ _ (by decide) _ _).trans ?_
  exact slot_read _ _ _ _ _ _ _
theorem v645_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v645 c w0 w1 w2 w3 w4 w5 w6 w7 fs = sqz (View.read (Elt F) (hbFc2.slice (Rect.unit (s := S3072x768) ![2304, 0] S768x768.size inb_S3072x768_S768x768_2304_0) (fun _ => rfl)).view w7) := by
  unfold firstRun.sl.v645
  repeat refine (slot_skip _ _ _ _ _ _ (by decide) _ _).trans ?_
  exact slot_read _ _ _ _ _ _ _
theorem keptQkv_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.G0_3 c w0 w1 w2 w3 w4 w5 w6 fs = keptQkvL c w0 := by
  unfold firstRun.sl.G0_3 keptQkvL
  unfold firstRun.sl.r
  simp only [v608_eq, v626_eq, v642_eq]
theorem keptAp_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.G1_1 c w0 w1 w2 w3 w4 w5 w6 fs = keptApL c w1 := by
  unfold firstRun.sl.G1_1 keptApL
  simp only [v658_eq]
theorem keptQ_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.G2_1 c w0 w1 w2 w3 w4 w5 w6 w7 fs = keptQL c w2 := by
  unfold firstRun.sl.G2_1 keptQL
  simp only [v706_eq]
theorem keptK_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.G3_1 c w0 w1 w2 w3 w4 w5 w6 fs = keptKL c w3 := by
  unfold firstRun.sl.G3_1 keptKL
  simp only [v674_eq]
theorem keptV_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.G4_1 c w0 w1 w2 w3 w4 w5 w6 w7 fs = keptVL c w4 := by
  unfold firstRun.sl.G4_1 keptVL
  unfold firstRun.sl.r_2
  simp only [v690_eq]
theorem keptCp_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.G5_1 c w0 w1 w2 w3 w4 w5 w6 w7 fs = keptCpL c w5 := by
  unfold firstRun.sl.G5_1 keptCpL
  simp only [v724_eq]
theorem keptFc1_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.G6_4 c w0 w1 w2 w3 w4 w5 w6 w7 fs = keptFc1L c w6 := by
  unfold firstRun.sl.G6_4 keptFc1L
  simp only [v568_eq, v579_eq, v590_eq, v601_eq]
theorem keptFc2_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.G7_4 c w0 w1 w2 w3 w4 w5 w6 w7 fs = keptFc2L c w7 := by
  unfold firstRun.sl.G7_4 keptFc2L
  simp only [v612_eq, v623_eq, v634_eq, v645_eq]

end Cert.Kernel.Hand

end
-- ==== Proof.Ideal.Block.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ViewIndex

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-- The self-attention stage of the block: the rows after the first residual. -/
noncomputable def saOf (x : Vec F S1x512x768 .f32) (W0 : Vec F S768x2304 .bf16) (W1 : Vec F S768x768 .bf16) : FVec F S512x768 .f32 :=
  let r := k0_pay19 x
  let r_2 := k0_pay23 x W0
  let r_3 := k0_pay24 x W0
  let r_4 := k0_pay25 x W0
  let r_5 := k0_pay27 r_3 r_4 k0_pay26
  let r_6 := k0_pay28 k0_pay21 r_2
  let r_7 := k0_pay29 k0_pay21 r_2
  let r_8 := k0_pay30 k0_pay21 r_2
  let r_9 := k0_pay31 k0_pay21 r_2
  let r_10 := k0_pay32 k0_pay21 r_2
  let r_11 := k0_pay33 k0_pay21 r_2
  let r_12 := k0_pay34 r_10 r_11
  let r_13 := k0_pay35 k0_pay21 r_2
  let r_14 := k0_pay36 k0_pay21 r_2
  let r_15 := k0_pay37 r_2
  let r_16 := k0_pay38 r_2
  let r_17 := k0_pay39 k0_pay21 r_2
  let r_18 := k0_pay40 r_15 r_16 r_17 (constant S512x512 .f32 0#32)
  let r_19 := k0_pay41 k0_pay21 r_2
  let r_20 := k0_pay43 k0_pay21 r_2
  let r_21 := k0_pay44 k0_pay21 r_2
  k0_pay45 r k0_pay21 r_2 r_5 r_6 r_7 r_8 r_9 r_12 r_13 r_14 r_18 r_19 r_20 r_21 (FloatOps.ofBits .f32 1065353216#32) W1

/-- The cross-attention stage: the rows after the second residual. -/
noncomputable def caOf (r_22 : FVec F S512x768 .f32) (y : Vec F S1x1024x768 .f32) (W2 W3 W4 W5 : Vec F S768x768 .bf16) : FVec F S512x768 .f32 :=
  let r_1 := k0_pay20 y
  let r_23 := k0_pay46 r_1
  let r_24 := k0_pay47 r_23 W3
  let r_25 := k0_pay48 r_23 W4
  let r_26 := k0_pay49 r_22 W2
  let r_27 := k0_pay51 k0_pay22 r_22 r_23 W3 W4 W2
  let r_28 := k0_pay52 k0_pay22 r_22 r_23 W3 W4 W2
  let r_29 := k0_pay53 r_27 r_28 (FloatOps.ofBits .f32 1065353216#32)
  let r_30 := k0_pay54 k0_pay22 r_24 r_25 r_26
  let r_31 := k0_pay55 k0_pay22 r_24 r_25 r_26
  let r_32 := k0_pay56 k0_pay22 r_25
  let r_33 := k0_pay57 r_24 r_26
  let r_34 := k0_pay58 r_32 r_33
  let r_35 := k0_pay59 k0_pay22 r_24 r_25 r_26
  let r_36 := k0_pay60 k0_pay22 r_24 r_25 r_26
  let r_37 := k0_pay61 r_25
  let r_38 := k0_pay62 k0_pay22 r_24 r_26 r_37
  let r_39 := k0_pay63 k0_pay22 r_24 r_25 r_26
  let r_40 := k0_pay65 k0_pay22 r_24 r_25 r_26
  let r_41 := k0_pay66 k0_pay22 r_24 r_25 r_26
  let r_42 := k0_pay67 r_40 r_41
  let r_43 := k0_pay68 k0_pay22 r_24 r_25 r_26
  let r_44 := k0_pay69 k0_pay22 r_24 r_25 r_26
  let r_45 := k0_pay70 k0_pay22 r_25
  let r_46 := k0_pay71 r_24 r_26
  k0_pay72 r_22 r_29 r_30 r_31 r_34 r_35 r_36 r_38 r_39 r_42 r_43 r_44 r_45 r_46 W5

/-- The hidden layer before its activation. -/
noncomputable def hidA (r_22 : FVec F S512x768 .f32) (y : Vec F S1x1024x768 .f32) (W2 W3 W4 W5 : Vec F S768x768 .bf16) (W6 : Vec F S768x3072 .bf16) : FVec F S512x3072 .bf16 :=
  let r_1 := k0_pay20 y
  let r_23 := k0_pay46 r_1
  let r_24 := k0_pay47 r_23 W3
  let r_25 := k0_pay48 r_23 W4
  let r_26 := k0_pay49 r_22 W2
  let r_27 := k0_pay51 k0_pay22 r_22 r_23 W3 W4 W2
  let r_28 := k0_pay52 k0_pay22 r_22 r_23 W3 W4 W2
  let r_29 := k0_pay53 r_27 r_28 (FloatOps.ofBits .f32 1065353216#32)
  let r_30 := k0_pay54 k0_pay22 r_24 r_25 r_26
  let r_31 := k0_pay55 k0_pay22 r_24 r_25 r_26
  let r_32 := k0_pay56 k0_pay22 r_25
  let r_33 := k0_pay57 r_24 r_26
  let r_34 := k0_pay58 r_32 r_33
  let r_35 := k0_pay59 k0_pay22 r_24 r_25 r_26
  let r_36 := k0_pay60 k0_pay22 r_24 r_25 r_26
  let r_37 := k0_pay61 r_25
  let r_38 := k0_pay62 k0_pay22 r_24 r_26 r_37
  let r_39 := k0_pay63 k0_pay22 r_24 r_25 r_26
  let r_40 := k0_pay65 k0_pay22 r_24 r_25 r_26
  let r_41 := k0_pay66 k0_pay22 r_24 r_25 r_26
  let r_42 := k0_pay67 r_40 r_41
  let r_43 := k0_pay68 k0_pay22 r_24 r_25 r_26
  let r_44 := k0_pay69 k0_pay22 r_24 r_25 r_26
  let r_45 := k0_pay70 k0_pay22 r_25
  let r_46 := k0_pay71 r_24 r_26
  k0_pay74 r_22 r_29 r_30 r_31 r_34 r_35 r_36 r_38 r_39 r_42 r_43 r_44 r_45 r_46 W5 W6

/-- The hidden layer, squared. -/
noncomputable def hidB (r_22 : FVec F S512x768 .f32) (y : Vec F S1x1024x768 .f32) (W2 W3 W4 W5 : Vec F S768x768 .bf16) (W6 : Vec F S768x3072 .bf16) : FVec F S512x3072 .bf16 :=
  let r_1 := k0_pay20 y
  let r_23 := k0_pay46 r_1
  let r_24 := k0_pay47 r_23 W3
  let r_25 := k0_pay48 r_23 W4
  let r_26 := k0_pay49 r_22 W2
  let r_27 := k0_pay51 k0_pay22 r_22 r_23 W3 W4 W2
  let r_28 := k0_pay52 k0_pay22 r_22 r_23 W3 W4 W2
  let r_29 := k0_pay53 r_27 r_28 (FloatOps.ofBits .f32 1065353216#32)
  let r_30 := k0_pay54 k0_pay22 r_24 r_25 r_26
  let r_31 := k0_pay55 k0_pay22 r_24 r_25 r_26
  let r_32 := k0_pay56 k0_pay22 r_25
  let r_33 := k0_pay57 r_24 r_26
  let r_34 := k0_pay58 r_32 r_33
  let r_35 := k0_pay59 k0_pay22 r_24 r_25 r_26
  let r_36 := k0_pay60 k0_pay22 r_24 r_25 r_26
  let r_37 := k0_pay61 r_25
  let r_38 := k0_pay62 k0_pay22 r_24 r_26 r_37
  let r_39 := k0_pay63 k0_pay22 r_24 r_25 r_26
  let r_40 := k0_pay65 k0_pay22 r_24 r_25 r_26
  let r_41 := k0_pay66 k0_pay22 r_24 r_25 r_26
  let r_42 := k0_pay67 r_40 r_41
  let r_43 := k0_pay68 k0_pay22 r_24 r_25 r_26
  let r_44 := k0_pay69 k0_pay22 r_24 r_25 r_26
  let r_45 := k0_pay70 k0_pay22 r_25
  let r_46 := k0_pay71 r_24 r_26
  k0_pay75 r_22 r_29 r_30 r_31 r_34 r_35 r_36 r_38 r_39 r_42 r_43 r_44 r_45 r_46 W5 W6

/-- The block's result on one batch entry, from the rows and the rounded weights. -/
noncomputable def blkOf (x : Vec F S1x512x768 .f32) (y : Vec F S1x1024x768 .f32) (W0 : Vec F S768x2304 .bf16) (W1 W2 W3 W4 W5 : Vec F S768x768 .bf16) (W6 : Vec F S768x3072 .bf16) (W7 : Vec F S3072x768 .bf16) : FVec F S1x512x768 .f32 :=
  k0_pay1 (caOf (saOf x W0 W1) y W2 W3 W4 W5) (hidA (saOf x W0 W1) y W2 W3 W4 W5 W6) (hidB (saOf x W0 W1) y W2 W3 W4 W5 W6) W7

end Cert.KernelIdeal.Hand

end
-- ==== Proof.Ideal.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-! ## The body's operands -/

/-- The weights in high-bandwidth memory. -/
abbrev hbQkv : Memref sig .tc .hbm S768x2304 .f32 := Memref.whole main_arg6
abbrev hbAp : Memref sig .tc .hbm S768x768 .f32 := Memref.whole main_arg8
abbrev hbQ : Memref sig .tc .hbm S768x768 .f32 := Memref.whole main_arg14
abbrev hbK : Memref sig .tc .hbm S768x768 .f32 := Memref.whole main_arg16
abbrev hbV : Memref sig .tc .hbm S768x768 .f32 := Memref.whole main_arg18
abbrev hbCp : Memref sig .tc .hbm S768x768 .f32 := Memref.whole main_arg20
abbrev hbFc1 : Memref sig .tc .hbm S768x3072 .f32 := Memref.whole main_arg24
abbrev hbFc2 : Memref sig .tc .hbm S3072x768 .f32 := Memref.whole main_arg26
/-- The scratch buffers the rounded weights are kept in. -/
abbrev scQkv : Memref sig .tc .vmem S768x2304 .bf16 := Memref.whole cc0_scratch0
abbrev scAp : Memref sig .tc .vmem S768x768 .bf16 := Memref.whole cc0_scratch1
abbrev scQ : Memref sig .tc .vmem S768x768 .bf16 := Memref.whole cc0_scratch2
abbrev scK : Memref sig .tc .vmem S768x768 .bf16 := Memref.whole cc0_scratch3
abbrev scV : Memref sig .tc .vmem S768x768 .bf16 := Memref.whole cc0_scratch4
abbrev scCp : Memref sig .tc .vmem S768x768 .bf16 := Memref.whole cc0_scratch5
abbrev scFc1 : Memref sig .tc .vmem S768x3072 .bf16 := Memref.whole cc0_scratch6
abbrev scFc2 : Memref sig .tc .vmem S3072x768 .bf16 := Memref.whole cc0_scratch7
/-- The eight landing slots of the transfers. -/
abbrev scStage : Memref sig .tc .vmem S8x768x768 .f32 := Memref.whole cc0_scratch8

abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf (F := F) c M) : sProp 𝕄 :=
  M.view.loc (c : Thread nD τ) ↦{fullShare} f
/-- A buffer held by its view's own elements. -/
abbrev own (c : Dev nD) {sp : Space} {S : Shape} {e : EltTy} (M : Memref sig .tc sp S e) (f : BufOf (F := F) c M) : sProp 𝕄 :=
  M.view.loc (c : Thread nD τ) ↦[M.view.set]{fullShare} f

abbrev bodyOn (i : grid0.Coords) (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole) : Prog (TpuEff nD τ sig (Elt F) Λ₀ .tc) PUnit :=
  cc0__block_kernel i a1 h1 a2 h2 hbQkv (Memref.isWhole_whole _) hbAp (Memref.isWhole_whole _) hbQ (Memref.isWhole_whole _) hbK (Memref.isWhole_whole _) hbV (Memref.isWhole_whole _) hbCp (Memref.isWhole_whole _) hbFc1 (Memref.isWhole_whole _) hbFc2 (Memref.isWhole_whole _) a11 h11 scQkv (Memref.isWhole_whole _) scAp (Memref.isWhole_whole _) scQ (Memref.isWhole_whole _) scK (Memref.isWhole_whole _) scV (Memref.isWhole_whole _) scCp (Memref.isWhole_whole _) scFc1 (Memref.isWhole_whole _) scFc2 (Memref.isWhole_whole _) scStage (Memref.isWhole_whole _) cc0_scratch9

/-- The condition of the two guarded stretches: the first grid point. -/
abbrev isFirst (i : grid0.Coords) : Prop :=
  Scalar.cmpi .ne (Scalar.extui (Scalar.cmpi .eq (BitVec.ofNat 32 (i 0).val) 0#32) : BitVec 32) 0#32 = 1#1

noncomputable def laterRun (c : Dev nD) (i : grid0.Coords) (hi : ¬ isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (g0 : BufOf (F := F) c scQkv) (g1 : BufOf (F := F) c scAp) (g2 : BufOf (F := F) c scQ) (g3 : BufOf (F := F) c scK) (g4 : BufOf (F := F) c scV)
    (g5 : BufOf (F := F) c scCp) (g6 : BufOf (F := F) c scFc1) (g7 : BufOf (F := F) c scFc2) :
    { L : List (View.Piece (Elt F) S1x512x768 .f32) //
      ∀ (W : Waits sig Unit) (K : PUnit → sProp 𝕄),
        iprop((a1.view.loc (c : Thread nD τ) ↦[a1.view.set]{fullShare} f1) ∗ (a2.view.loc (c : Thread nD τ) ↦[a2.view.set]{fullShare} f2)
            ∗ (∃ f, a11.view.loc (c : Thread nD τ) ↦[a11.view.set]{fullShare} f)
            ∗ own c scQkv g0 ∗ own c scAp g1 ∗ own c scQ g2 ∗ own c scK g3 ∗ own c scV g4 ∗ own c scCp g5 ∗ own c scFc1 g6 ∗ own c scFc2 g7
            ∗ owes (c : Thread nD τ) 0 W
            ∗ (iprop((a1.view.loc (c : Thread nD τ) ↦[a1.view.set]{fullShare} f1) ∗ (a2.view.loc (c : Thread nD τ) ↦[a2.view.set]{fullShare} f2)
            ∗ (∃ f, a11.view.loc (c : Thread nD τ) ↦[a11.view.set]{fullShare} a11.view.writes (Elt F) f L)
            ∗ own c scQkv g0 ∗ own c scAp g1 ∗ own c scQ g2 ∗ own c scK g3 ∗ own c scV g4 ∗ own c scCp g5 ∗ own c scFc1 g6 ∗ own c scFc2 g7
            ∗ owes (c : Thread nD τ) 0 W) -∗ K ⟨⟩))
          ⊢ wp frame (wpE (defs₀ (F := F)) Variants.none c none) Set.univ (bodyOn i a1 h1 a2 h2 a11 h11) K } := by
  refine ⟨?_, fun W K => ?run⟩
  case run =>
    iintro ⟨H1, H2, ⟨%f11, H11⟩, G0, G1, G2, G3, G4, G5, G6, G7, HW, Hk⟩
    unfold bodyOn
    simp only [cc0__block_kernel_eq_skeleton]; unfold cc0__block_kernel_skel
    sl_exec
    sl_step
    iapply Hk
    isplitl [H1]; · iexact H1
    isplitl [H2]; · iexact H2
    isplitl [H11]; · iexists _; iexact H11
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact HW
set_option maxHeartbeats 400000 in
set_option sl_exec.dmaWindow true in

/-- The first point's run: every weight copied, rounded and kept, then the block computed. -/
noncomputable def firstRun (c : Dev nD) (i : grid0.Coords) (hi : isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    { Ls : List (View.Piece (Elt F) S1x512x768 .f32) × List (View.Piece (Elt F) S768x2304 .bf16) × List (View.Piece (Elt F) S768x768 .bf16) × List (View.Piece (Elt F) S768x768 .bf16) × List (View.Piece (Elt F) S768x768 .bf16) × List (View.Piece (Elt F) S768x768 .bf16) × List (View.Piece (Elt F) S768x768 .bf16) × List (View.Piece (Elt F) S768x3072 .bf16) × List (View.Piece (Elt F) S3072x768 .bf16) //
      ∀ (W : Waits sig Unit) (K : PUnit → sProp 𝕄),
        iprop((a1.view.loc (c : Thread nD τ) ↦[a1.view.set]{fullShare} f1) ∗ (a2.view.loc (c : Thread nD τ) ↦[a2.view.set]{fullShare} f2)
            ∗ (∃ f, a11.view.loc (c : Thread nD τ) ↦[a11.view.set]{fullShare} f)
            ∗ (∃ f, own c scQkv f) ∗ (∃ f, own c scAp f) ∗ (∃ f, own c scQ f) ∗ (∃ f, own c scK f) ∗ (∃ f, own c scV f) ∗ (∃ f, own c scCp f) ∗ (∃ f, own c scFc1 f) ∗ (∃ f, own c scFc2 f)
            ∗ pt c scStage fs
            ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0
            ∗ pt c hbQkv w0 ∗ pt c hbAp w1 ∗ pt c hbQ w2 ∗ pt c hbK w3 ∗ pt c hbV w4 ∗ pt c hbCp w5 ∗ pt c hbFc1 w6 ∗ pt c hbFc2 w7
            ∗ owes (c : Thread nD τ) 0 W
            ∗ (iprop((a1.view.loc (c : Thread nD τ) ↦[a1.view.set]{fullShare} f1) ∗ (a2.view.loc (c : Thread nD τ) ↦[a2.view.set]{fullShare} f2)
            ∗ (∃ f, a11.view.loc (c : Thread nD τ) ↦[a11.view.set]{fullShare} a11.view.writes (Elt F) f Ls.1)
            ∗ (∃ f, own c scQkv (scQkv.view.writes (Elt F) f Ls.2.1)) ∗ (∃ f, own c scAp (scAp.view.writes (Elt F) f Ls.2.2.1)) ∗ (∃ f, own c scQ (scQ.view.writes (Elt F) f Ls.2.2.2.1)) ∗ (∃ f, own c scK (scK.view.writes (Elt F) f Ls.2.2.2.2.1)) ∗ (∃ f, own c scV (scV.view.writes (Elt F) f Ls.2.2.2.2.2.1)) ∗ (∃ f, own c scCp (scCp.view.writes (Elt F) f Ls.2.2.2.2.2.2.1)) ∗ (∃ f, own c scFc1 (scFc1.view.writes (Elt F) f Ls.2.2.2.2.2.2.2.1)) ∗ (∃ f, own c scFc2 (scFc2.view.writes (Elt F) f Ls.2.2.2.2.2.2.2.2))
            ∗ (∃ f, pt c scStage f)
            ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0
            ∗ pt c hbQkv w0 ∗ pt c hbAp w1 ∗ pt c hbQ w2 ∗ pt c hbK w3 ∗ pt c hbV w4 ∗ pt c hbCp w5 ∗ pt c hbFc1 w6 ∗ pt c hbFc2 w7
            ∗ (∃ W', owes (c : Thread nD τ) 0 W')) -∗ K ⟨⟩))
          ⊢ wp frame (wpE (defs₀ (F := F)) Variants.none c none) Set.univ (bodyOn i a1 h1 a2 h2 a11 h11) K } := by
  refine ⟨⟨?_, ?_, ?_, ?_, ?_, ?_, ?_, ?_, ?_⟩, fun W K => ?run⟩
  case run =>
    iintro ⟨H1, H2, ⟨%f11, H11⟩, ⟨%f00, G0⟩, ⟨%f01, G1⟩, ⟨%f02, G2⟩, ⟨%f03, G3⟩, ⟨%f04, G4⟩, ⟨%f05, G5⟩, ⟨%f06, G6⟩, ⟨%f07, G7⟩, Gs, S0, S1, S2, S3, S4, S5, S6, S7, B0, B1, B2, B3, B4, B5, B6, B7, HW, Hk⟩
    unfold bodyOn
    simp only [cc0__block_kernel_eq_skeleton]; unfold cc0__block_kernel_skel
    sl_exec
    sl_step
    iapply Hk
    isplitl [H1]; · iexact H1
    isplitl [H2]; · iexact H2
    isplitl [H11]; · iexists _; iexact H11
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    isplitl [Gs]; · iexists _; iexact Gs
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexists _; iexact HW

end Cert.KernelIdeal.Hand

end
-- ==== Proof.Ideal.Kept.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ViewIndex
public import proofs.«01_k».proof.Proof.Ideal.Block
public import proofs.«01_k».proof.Proof.Ideal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-! ## What a landing slot reads -/

/-- A landing slot, as a transfer names it. -/
abbrev slotV (j : ℕ) (hj : ∀ a, (![j, 0, 0] : Fin 3 → ℕ) a + S1x768x768.size a ≤ S8x768x768.size a) (hs : ∀ a, (Rect.unit (s := S8x768x768) ![j, 0, 0] S1x768x768.size hj).stride a = 1)
    (hq : S1x768x768.Squeezes S768x768) : View sig .tc .vmem S768x768 .f32 :=
  ((scStage.slice (Rect.unit (s := S8x768x768) ![j, 0, 0] S1x768x768.size hj) hs).squeeze S768x768 hq).view

/-- A tile as a load of a slot returns it: with a leading axis of extent one. -/
def sqz (w : S768x768.Idx → Elt F .f32) : Vec F S1x768x768 .f32 := fun x => w ((Shape.reshapeEquiv squeezes_S1x768x768_S768x768.numel_eq).symm x)

theorem slot_read (k : ℕ) (hk hk' hs hq) (f : S8x768x768.Idx → Elt F .f32) (w : S768x768.Idx → Elt F .f32) :
    View.readAt (Elt F) scStage.view (Rect.unit (s := S8x768x768) ![k, 0, 0] S1x768x768.size hk').toLoadRect (View.write (Elt F) (slotV k hk hs hq) f w Finset.univ) = sqz w := by
  funext x
  have h := View.read_write_reshape (Val := Elt F) (scStage.view.slice (Rect.unit (s := S8x768x768) ![k, 0, 0] S1x768x768.size hk)) squeezes_S1x768x768_S768x768.numel_eq f w
    ((Shape.reshapeEquiv squeezes_S1x768x768_S768x768.numel_eq).symm x)
  rw [Equiv.apply_symm_apply] at h
  exact h

theorem slot_skip (j k : ℕ) (hj hk hs hq) (hne : j ≠ k) (f : S8x768x768.Idx → Elt F .f32) (w : S768x768.Idx → Elt F .f32) :
    View.readAt (Elt F) scStage.view (Rect.unit (s := S8x768x768) ![k, 0, 0] S1x768x768.size hk).toLoadRect (View.write (Elt F) (slotV j hj hs hq) f w Finset.univ)
      = View.readAt (Elt F) scStage.view (Rect.unit (s := S8x768x768) ![k, 0, 0] S1x768x768.size hk).toLoadRect f := by
  refine View.readAt_congr fun i hi => View.write_of_not_mem _ _ _ ?_
  intro hmem
  obtain ⟨x, -, hx⟩ := Finset.mem_map.mp hmem
  obtain ⟨z, hz, hz'⟩ := Finset.mem_map.mp hi
  obtain ⟨u, rfl⟩ := (Rect.unit (s := S8x768x768) ![k, 0, 0] S1x768x768.size hk).exists_idx_of_mem hz
  have h0 := congrArg (fun (q : S8x768x768.Idx) => (q 0).val) (hx.trans hz'.symm)
  have e1 : ∀ v : S1x768x768.Idx, (((Rect.unit (s := S8x768x768) ![k, 0, 0] S1x768x768.size hk).emb v) 0).val = k := by
    intro v; show k + 1 * (v 0).val = k
    have := (v 0).isLt; have e : S1x768x768.size 0 = 1 := rfl; omega
  have e2 : ∀ v : S1x768x768.Idx, (((Rect.unit (s := S8x768x768) ![j, 0, 0] S1x768x768.size hj).emb v) 0).val = j := by
    intro v; show j + 1 * (v 0).val = j
    have := (v 0).isLt; have e : S1x768x768.size 0 = 1 := rfl; omega
  exact hne ((e2 _).symm.trans (h0.trans (e1 _)))

/-! ## The kept weights -/

/-- The pieces stored in `scQkv` at the first point. -/
def keptQkvL (c : Dev nD) (w : BufOf (F := F) c hbQkv) : List (View.Piece (Elt F) S768x2304 .bf16) :=
  [⟨Rect.unit ![0, 1536] S768x768.size inb_S768x2304_S768x768_0_1536, k0_pay5 (sqz (View.read (Elt F) (hbQkv.slice (Rect.unit (s := S768x2304) ![0, 1536] S768x768.size inb_S768x2304_S768x768_0_1536) (fun _ => rfl)).view w))⟩,
   ⟨Rect.unit ![0, 768] S768x768.size inb_S768x2304_S768x768_0_768, k0_pay4 (sqz (View.read (Elt F) (hbQkv.slice (Rect.unit (s := S768x2304) ![0, 768] S768x768.size inb_S768x2304_S768x768_0_768) (fun _ => rfl)).view w))⟩,
   ⟨Rect.unit ![0, 0] S768x768.size inb_S768x2304_S768x768_0_0, k0_pay3 (k0_pay2 (sqz (View.read (Elt F) (hbQkv.slice (Rect.unit (s := S768x2304) ![0, 0] S768x768.size inb_S768x2304_S768x768_0_0) (fun _ => rfl)).view w)))⟩]
/-- What `scQkv` holds from the first point on. -/
def keptQkv (c : Dev nD) (w : BufOf (F := F) c hbQkv) : Vec F S768x2304 .bf16 := View.canon (keptQkvL c w)

/-- The pieces stored in `scAp` at the first point. -/
def keptApL (c : Dev nD) (w : BufOf (F := F) c hbAp) : List (View.Piece (Elt F) S768x768 .bf16) :=
  [⟨Rect.unit ![0, 0] S768x768.size inb_S768x768_S768x768_0_0, k0_pay6 (sqz (View.read (Elt F) (hbAp.slice (Rect.unit (s := S768x768) ![0, 0] S768x768.size inb_S768x768_S768x768_0_0) (fun _ => rfl)).view w))⟩]
/-- What `scAp` holds from the first point on. -/
def keptAp (c : Dev nD) (w : BufOf (F := F) c hbAp) : Vec F S768x768 .bf16 := View.canon (keptApL c w)

/-- The pieces stored in `scQ` at the first point. -/
def keptQL (c : Dev nD) (w : BufOf (F := F) c hbQ) : List (View.Piece (Elt F) S768x768 .bf16) :=
  [⟨Rect.unit ![0, 0] S768x768.size inb_S768x768_S768x768_0_0, k0_pay10 (sqz (View.read (Elt F) (hbQ.slice (Rect.unit (s := S768x768) ![0, 0] S768x768.size inb_S768x768_S768x768_0_0) (fun _ => rfl)).view w))⟩]
/-- What `scQ` holds from the first point on. -/
def keptQ (c : Dev nD) (w : BufOf (F := F) c hbQ) : Vec F S768x768 .bf16 := View.canon (keptQL c w)

/-- The pieces stored in `scK` at the first point. -/
def keptKL (c : Dev nD) (w : BufOf (F := F) c hbK) : List (View.Piece (Elt F) S768x768 .bf16) :=
  [⟨Rect.unit ![0, 0] S768x768.size inb_S768x768_S768x768_0_0, k0_pay7 (sqz (View.read (Elt F) (hbK.slice (Rect.unit (s := S768x768) ![0, 0] S768x768.size inb_S768x768_S768x768_0_0) (fun _ => rfl)).view w))⟩]
/-- What `scK` holds from the first point on. -/
def keptK (c : Dev nD) (w : BufOf (F := F) c hbK) : Vec F S768x768 .bf16 := View.canon (keptKL c w)

/-- The pieces stored in `scV` at the first point. -/
def keptVL (c : Dev nD) (w : BufOf (F := F) c hbV) : List (View.Piece (Elt F) S768x768 .bf16) :=
  [⟨Rect.unit ![0, 0] S768x768.size inb_S768x768_S768x768_0_0, k0_pay9 (k0_pay8 (sqz (View.read (Elt F) (hbV.slice (Rect.unit (s := S768x768) ![0, 0] S768x768.size inb_S768x768_S768x768_0_0) (fun _ => rfl)).view w)))⟩]
/-- What `scV` holds from the first point on. -/
def keptV (c : Dev nD) (w : BufOf (F := F) c hbV) : Vec F S768x768 .bf16 := View.canon (keptVL c w)

/-- The pieces stored in `scCp` at the first point. -/
def keptCpL (c : Dev nD) (w : BufOf (F := F) c hbCp) : List (View.Piece (Elt F) S768x768 .bf16) :=
  [⟨Rect.unit ![0, 0] S768x768.size inb_S768x768_S768x768_0_0, k0_pay18 (sqz (View.read (Elt F) (hbCp.slice (Rect.unit (s := S768x768) ![0, 0] S768x768.size inb_S768x768_S768x768_0_0) (fun _ => rfl)).view w))⟩]
/-- What `scCp` holds from the first point on. -/
def keptCp (c : Dev nD) (w : BufOf (F := F) c hbCp) : Vec F S768x768 .bf16 := View.canon (keptCpL c w)

/-- The pieces stored in `scFc1` at the first point. -/
def keptFc1L (c : Dev nD) (w : BufOf (F := F) c hbFc1) : List (View.Piece (Elt F) S768x3072 .bf16) :=
  [⟨Rect.unit ![0, 2304] S768x768.size inb_S768x3072_S768x768_0_2304, k0_pay14 (sqz (View.read (Elt F) (hbFc1.slice (Rect.unit (s := S768x3072) ![0, 2304] S768x768.size inb_S768x3072_S768x768_0_2304) (fun _ => rfl)).view w))⟩,
   ⟨Rect.unit ![0, 1536] S768x768.size inb_S768x3072_S768x768_0_1536, k0_pay13 (sqz (View.read (Elt F) (hbFc1.slice (Rect.unit (s := S768x3072) ![0, 1536] S768x768.size inb_S768x3072_S768x768_0_1536) (fun _ => rfl)).view w))⟩,
   ⟨Rect.unit ![0, 768] S768x768.size inb_S768x3072_S768x768_0_768, k0_pay12 (sqz (View.read (Elt F) (hbFc1.slice (Rect.unit (s := S768x3072) ![0, 768] S768x768.size inb_S768x3072_S768x768_0_768) (fun _ => rfl)).view w))⟩,
   ⟨Rect.unit ![0, 0] S768x768.size inb_S768x3072_S768x768_0_0, k0_pay11 (sqz (View.read (Elt F) (hbFc1.slice (Rect.unit (s := S768x3072) ![0, 0] S768x768.size inb_S768x3072_S768x768_0_0) (fun _ => rfl)).view w))⟩]
/-- What `scFc1` holds from the first point on. -/
def keptFc1 (c : Dev nD) (w : BufOf (F := F) c hbFc1) : Vec F S768x3072 .bf16 := View.canon (keptFc1L c w)

/-- The pieces stored in `scFc2` at the first point. -/
def keptFc2L (c : Dev nD) (w : BufOf (F := F) c hbFc2) : List (View.Piece (Elt F) S3072x768 .bf16) :=
  [⟨Rect.unit ![2304, 0] S768x768.size inb_S3072x768_S768x768_2304_0, k0_pay73 (sqz (View.read (Elt F) (hbFc2.slice (Rect.unit (s := S3072x768) ![2304, 0] S768x768.size inb_S3072x768_S768x768_2304_0) (fun _ => rfl)).view w))⟩,
   ⟨Rect.unit ![1536, 0] S768x768.size inb_S3072x768_S768x768_1536_0, k0_pay17 (sqz (View.read (Elt F) (hbFc2.slice (Rect.unit (s := S3072x768) ![1536, 0] S768x768.size inb_S3072x768_S768x768_1536_0) (fun _ => rfl)).view w))⟩,
   ⟨Rect.unit ![768, 0] S768x768.size inb_S3072x768_S768x768_768_0, k0_pay16 (sqz (View.read (Elt F) (hbFc2.slice (Rect.unit (s := S3072x768) ![768, 0] S768x768.size inb_S3072x768_S768x768_768_0) (fun _ => rfl)).view w))⟩,
   ⟨Rect.unit ![0, 0] S768x768.size inb_S3072x768_S768x768_0_0, k0_pay15 (sqz (View.read (Elt F) (hbFc2.slice (Rect.unit (s := S3072x768) ![0, 0] S768x768.size inb_S3072x768_S768x768_0_0) (fun _ => rfl)).view w))⟩]
/-- What `scFc2` holds from the first point on. -/
def keptFc2 (c : Dev nD) (w : BufOf (F := F) c hbFc2) : Vec F S3072x768 .bf16 := View.canon (keptFc2L c w)

theorem v608_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (fs : BufOf (F := F) c scStage) :
    firstRun.sl.v608 c w0 w1 w2 w3 w4 w5 fs = sqz (View.read (Elt F) (hbQkv.slice (Rect.unit (s := S768x2304) ![0, 0] S768x768.size inb_S768x2304_S768x768_0_0) (fun _ => rfl)).view w0) := by
  unfold firstRun.sl.v608
  repeat refine (slot_skip _ _ _ _ _ _ (by decide) _ _).trans ?_
  exact slot_read _ _ _ _ _ _ _
theorem v626_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.v626 c w0 w1 w2 w3 w4 w5 w6 fs = sqz (View.read (Elt F) (hbQkv.slice (Rect.unit (s := S768x2304) ![0, 768] S768x768.size inb_S768x2304_S768x768_0_768) (fun _ => rfl)).view w0) := by
  unfold firstRun.sl.v626
  repeat refine (slot_skip _ _ _ _ _ _ (by decide) _ _).trans ?_
  exact slot_read _ _ _ _ _ _ _
theorem v642_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.v642 c w0 w1 w2 w3 w4 w5 w6 fs = sqz (View.read (Elt F) (hbQkv.slice (Rect.unit (s := S768x2304) ![0, 1536] S768x768.size inb_S768x2304_S768x768_0_1536) (fun _ => rfl)).view w0) := by
  unfold firstRun.sl.v642
  repeat refine (slot_skip _ _ _ _ _ _ (by decide) _ _).trans ?_
  exact slot_read _ _ _ _ _ _ _
theorem v658_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.v658 c w0 w1 w2 w3 w4 w5 w6 fs = sqz (View.read (Elt F) (hbAp.slice (Rect.unit (s := S768x768) ![0, 0] S768x768.size inb_S768x768_S768x768_0_0) (fun _ => rfl)).view w1) := by
  unfold firstRun.sl.v658
  repeat refine (slot_skip _ _ _ _ _ _ (by decide) _ _).trans ?_
  exact slot_read _ _ _ _ _ _ _
theorem v674_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.v674 c w0 w1 w2 w3 w4 w5 w6 fs = sqz (View.read (Elt F) (hbK.slice (Rect.unit (s := S768x768) ![0, 0] S768x768.size inb_S768x768_S768x768_0_0) (fun _ => rfl)).view w3) := by
  unfold firstRun.sl.v674
  repeat refine (slot_skip _ _ _ _ _ _ (by decide) _ _).trans ?_
  exact slot_read _ _ _ _ _ _ _
theorem v690_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v690 c w0 w1 w2 w3 w4 w5 w6 w7 fs = sqz (View.read (Elt F) (hbV.slice (Rect.unit (s := S768x768) ![0, 0] S768x768.size inb_S768x768_S768x768_0_0) (fun _ => rfl)).view w4) := by
  unfold firstRun.sl.v690
  repeat refine (slot_skip _ _ _ _ _ _ (by decide) _ _).trans ?_
  exact slot_read _ _ _ _ _ _ _
theorem v706_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v706 c w0 w1 w2 w3 w4 w5 w6 w7 fs = sqz (View.read (Elt F) (hbQ.slice (Rect.unit (s := S768x768) ![0, 0] S768x768.size inb_S768x768_S768x768_0_0) (fun _ => rfl)).view w2) := by
  unfold firstRun.sl.v706
  repeat refine (slot_skip _ _ _ _ _ _ (by decide) _ _).trans ?_
  exact slot_read _ _ _ _ _ _ _
theorem v724_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v724 c w0 w1 w2 w3 w4 w5 w6 w7 fs = sqz (View.read (Elt F) (hbCp.slice (Rect.unit (s := S768x768) ![0, 0] S768x768.size inb_S768x768_S768x768_0_0) (fun _ => rfl)).view w5) := by
  unfold firstRun.sl.v724
  repeat refine (slot_skip _ _ _ _ _ _ (by decide) _ _).trans ?_
  exact slot_read _ _ _ _ _ _ _
theorem v568_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v568 c w0 w1 w2 w3 w4 w5 w6 w7 fs = sqz (View.read (Elt F) (hbFc1.slice (Rect.unit (s := S768x3072) ![0, 0] S768x768.size inb_S768x3072_S768x768_0_0) (fun _ => rfl)).view w6) := by
  unfold firstRun.sl.v568
  repeat refine (slot_skip _ _ _ _ _ _ (by decide) _ _).trans ?_
  exact slot_read _ _ _ _ _ _ _
theorem v579_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v579 c w0 w1 w2 w3 w4 w5 w6 w7 fs = sqz (View.read (Elt F) (hbFc1.slice (Rect.unit (s := S768x3072) ![0, 768] S768x768.size inb_S768x3072_S768x768_0_768) (fun _ => rfl)).view w6) := by
  unfold firstRun.sl.v579
  repeat refine (slot_skip _ _ _ _ _ _ (by decide) _ _).trans ?_
  exact slot_read _ _ _ _ _ _ _
theorem v590_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v590 c w0 w1 w2 w3 w4 w5 w6 w7 fs = sqz (View.read (Elt F) (hbFc1.slice (Rect.unit (s := S768x3072) ![0, 1536] S768x768.size inb_S768x3072_S768x768_0_1536) (fun _ => rfl)).view w6) := by
  unfold firstRun.sl.v590
  repeat refine (slot_skip _ _ _ _ _ _ (by decide) _ _).trans ?_
  exact slot_read _ _ _ _ _ _ _
theorem v601_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v601 c w0 w1 w2 w3 w4 w5 w6 w7 fs = sqz (View.read (Elt F) (hbFc1.slice (Rect.unit (s := S768x3072) ![0, 2304] S768x768.size inb_S768x3072_S768x768_0_2304) (fun _ => rfl)).view w6) := by
  unfold firstRun.sl.v601
  repeat refine (slot_skip _ _ _ _ _ _ (by decide) _ _).trans ?_
  exact slot_read _ _ _ _ _ _ _
theorem v612_1_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v612_1 c w0 w1 w2 w3 w4 w5 w6 w7 fs = sqz (View.read (Elt F) (hbFc2.slice (Rect.unit (s := S3072x768) ![0, 0] S768x768.size inb_S3072x768_S768x768_0_0) (fun _ => rfl)).view w7) := by
  unfold firstRun.sl.v612_1
  repeat refine (slot_skip _ _ _ _ _ _ (by decide) _ _).trans ?_
  exact slot_read _ _ _ _ _ _ _
theorem v623_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v623 c w0 w1 w2 w3 w4 w5 w6 w7 fs = sqz (View.read (Elt F) (hbFc2.slice (Rect.unit (s := S3072x768) ![768, 0] S768x768.size inb_S3072x768_S768x768_768_0) (fun _ => rfl)).view w7) := by
  unfold firstRun.sl.v623
  repeat refine (slot_skip _ _ _ _ _ _ (by decide) _ _).trans ?_
  exact slot_read _ _ _ _ _ _ _
theorem v634_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v634 c w0 w1 w2 w3 w4 w5 w6 w7 fs = sqz (View.read (Elt F) (hbFc2.slice (Rect.unit (s := S3072x768) ![1536, 0] S768x768.size inb_S3072x768_S768x768_1536_0) (fun _ => rfl)).view w7) := by
  unfold firstRun.sl.v634
  repeat refine (slot_skip _ _ _ _ _ _ (by decide) _ _).trans ?_
  exact slot_read _ _ _ _ _ _ _
theorem v645_1_eq (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.v645_1 c w0 w1 w2 w3 w4 w5 w6 w7 fs = sqz (View.read (Elt F) (hbFc2.slice (Rect.unit (s := S3072x768) ![2304, 0] S768x768.size inb_S3072x768_S768x768_2304_0) (fun _ => rfl)).view w7) := by
  unfold firstRun.sl.v645_1
  repeat refine (slot_skip _ _ _ _ _ _ (by decide) _ _).trans ?_
  exact slot_read _ _ _ _ _ _ _
theorem keptQkv_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.G0_3 c w0 w1 w2 w3 w4 w5 w6 fs = keptQkvL c w0 := by
  have e : firstRun.sl.G0_3 c w0 w1 w2 w3 w4 w5 w6 fs = [⟨Rect.unit ![0, 1536] S768x768.size inb_S768x2304_S768x768_0_1536, k0_pay5 ((firstRun.sl.v642 c w0 w1 w2 w3 w4 w5 w6 fs))⟩, ⟨Rect.unit ![0, 768] S768x768.size inb_S768x2304_S768x768_0_768, k0_pay4 ((firstRun.sl.v626 c w0 w1 w2 w3 w4 w5 w6 fs))⟩, ⟨Rect.unit ![0, 0] S768x768.size inb_S768x2304_S768x768_0_0, k0_pay3 (k0_pay2 ((firstRun.sl.v608 c w0 w1 w2 w3 w4 w5 fs)))⟩] := rfl
  rw [e]; unfold keptQkvL
  rw [v642_eq, v626_eq, v608_eq]
theorem keptAp_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.G1_1 c w0 w1 w2 w3 w4 w5 w6 fs = keptApL c w1 := by
  have e : firstRun.sl.G1_1 c w0 w1 w2 w3 w4 w5 w6 fs = [⟨Rect.unit ![0, 0] S768x768.size inb_S768x768_S768x768_0_0, k0_pay6 ((firstRun.sl.v658 c w0 w1 w2 w3 w4 w5 w6 fs))⟩] := rfl
  rw [e]; unfold keptApL
  rw [v658_eq]
theorem keptQ_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.G2_1 c w0 w1 w2 w3 w4 w5 w6 w7 fs = keptQL c w2 := by
  have e : firstRun.sl.G2_1 c w0 w1 w2 w3 w4 w5 w6 w7 fs = [⟨Rect.unit ![0, 0] S768x768.size inb_S768x768_S768x768_0_0, k0_pay10 ((firstRun.sl.v706 c w0 w1 w2 w3 w4 w5 w6 w7 fs))⟩] := rfl
  rw [e]; unfold keptQL
  rw [v706_eq]
theorem keptK_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (fs : BufOf (F := F) c scStage) :
    firstRun.sl.G3_1 c w0 w1 w2 w3 w4 w5 w6 fs = keptKL c w3 := by
  have e : firstRun.sl.G3_1 c w0 w1 w2 w3 w4 w5 w6 fs = [⟨Rect.unit ![0, 0] S768x768.size inb_S768x768_S768x768_0_0, k0_pay7 ((firstRun.sl.v674 c w0 w1 w2 w3 w4 w5 w6 fs))⟩] := rfl
  rw [e]; unfold keptKL
  rw [v674_eq]
theorem keptV_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.G4_1 c w0 w1 w2 w3 w4 w5 w6 w7 fs = keptVL c w4 := by
  have e : firstRun.sl.G4_1 c w0 w1 w2 w3 w4 w5 w6 w7 fs = [⟨Rect.unit ![0, 0] S768x768.size inb_S768x768_S768x768_0_0, k0_pay9 (k0_pay8 ((firstRun.sl.v690 c w0 w1 w2 w3 w4 w5 w6 w7 fs)))⟩] := rfl
  rw [e]; unfold keptVL
  rw [v690_eq]
theorem keptCp_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.G5_1 c w0 w1 w2 w3 w4 w5 w6 w7 fs = keptCpL c w5 := by
  have e : firstRun.sl.G5_1 c w0 w1 w2 w3 w4 w5 w6 w7 fs = [⟨Rect.unit ![0, 0] S768x768.size inb_S768x768_S768x768_0_0, k0_pay18 ((firstRun.sl.v724 c w0 w1 w2 w3 w4 w5 w6 w7 fs))⟩] := rfl
  rw [e]; unfold keptCpL
  rw [v724_eq]
theorem keptFc1_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.G6_4 c w0 w1 w2 w3 w4 w5 w6 w7 fs = keptFc1L c w6 := by
  have e : firstRun.sl.G6_4 c w0 w1 w2 w3 w4 w5 w6 w7 fs = [⟨Rect.unit ![0, 2304] S768x768.size inb_S768x3072_S768x768_0_2304, k0_pay14 ((firstRun.sl.v601 c w0 w1 w2 w3 w4 w5 w6 w7 fs))⟩, ⟨Rect.unit ![0, 1536] S768x768.size inb_S768x3072_S768x768_0_1536, k0_pay13 ((firstRun.sl.v590 c w0 w1 w2 w3 w4 w5 w6 w7 fs))⟩, ⟨Rect.unit ![0, 768] S768x768.size inb_S768x3072_S768x768_0_768, k0_pay12 ((firstRun.sl.v579 c w0 w1 w2 w3 w4 w5 w6 w7 fs))⟩, ⟨Rect.unit ![0, 0] S768x768.size inb_S768x3072_S768x768_0_0, k0_pay11 ((firstRun.sl.v568 c w0 w1 w2 w3 w4 w5 w6 w7 fs))⟩] := rfl
  rw [e]; unfold keptFc1L
  rw [v601_eq, v590_eq, v579_eq, v568_eq]
theorem keptFc2_pieces (c : Dev nD) (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    firstRun.sl.G7_4 c w0 w1 w2 w3 w4 w5 w6 w7 fs = keptFc2L c w7 := by
  have e : firstRun.sl.G7_4 c w0 w1 w2 w3 w4 w5 w6 w7 fs = [⟨Rect.unit ![2304, 0] S768x768.size inb_S3072x768_S768x768_2304_0, k0_pay73 ((firstRun.sl.v645_1 c w0 w1 w2 w3 w4 w5 w6 w7 fs))⟩, ⟨Rect.unit ![1536, 0] S768x768.size inb_S3072x768_S768x768_1536_0, k0_pay17 ((firstRun.sl.v634 c w0 w1 w2 w3 w4 w5 w6 w7 fs))⟩, ⟨Rect.unit ![768, 0] S768x768.size inb_S3072x768_S768x768_768_0, k0_pay16 ((firstRun.sl.v623 c w0 w1 w2 w3 w4 w5 w6 w7 fs))⟩, ⟨Rect.unit ![0, 0] S768x768.size inb_S3072x768_S768x768_0_0, k0_pay15 ((firstRun.sl.v612_1 c w0 w1 w2 w3 w4 w5 w6 w7 fs))⟩] := rfl
  rw [e]; unfold keptFc2L
  rw [v645_1_eq, v634_eq, v623_eq, v612_1_eq]

end Cert.KernelIdeal.Hand

end
-- ==== Proof.Ideal.Pieces.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ViewIndex
public import proofs.«01_k».proof.Proof.Ideal.Block
public import proofs.«01_k».proof.Proof.Ideal.Kept

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-- A load of a whole buffer over pieces reads what the pieces leave. -/
theorem readCov_whole {κ : Kind} {sp : Space} {s : Shape} {e : EltTy} (v : View sig κ sp s e) (L : List (View.Piece (Elt F) s e)) {off : Fin s.rank → ℕ} (inb : ∀ a, off a + s.size a ≤ s.size a) :
    v.readCov L (Rect.unit off s.size inb).toLoadRect = View.canon L := by
  rw [View.readCov_eq_canon']
  funext j
  exact congrArg (View.canon L) (Rect.emb_unit_full inb j)

/-- The one piece the body stores in the result's buffer. -/
abbrev outL (v : FVec F S1x512x768 .f32) : List (View.Piece (Elt F) S1x512x768 .f32) := [⟨Rect.unit ![0, 0, 0] S1x512x768.size inb_S1x512x768_S1x512x768_0_0_0, v⟩]

theorem outL_congr {x x' : Vec F S1x512x768 .f32} {y y' : Vec F S1x1024x768 .f32} {W0 W0' : Vec F S768x2304 .bf16} {W1 W1' W2 W2' W3 W3' W4 W4' W5 W5' : Vec F S768x768 .bf16}
    {W6 W6' : Vec F S768x3072 .bf16} {W7 W7' : Vec F S3072x768 .bf16} (hx : x = x') (hy : y = y') (h0 : W0 = W0') (h1 : W1 = W1') (h2 : W2 = W2') (h3 : W3 = W3') (h4 : W4 = W4') (h5 : W5 = W5') (h6 : W6 = W6') (h7 : W7 = W7') :
    outL (blkOf x y W0 W1 W2 W3 W4 W5 W6 W7) = outL (blkOf x' y' W0' W1' W2' W3' W4' W5' W6' W7') := by
  subst hx hy h0 h1 h2 h3 h4 h5 h6 h7; rfl

/-- A later point's piece: the block computed from the windows and the kept weights. -/
theorem laterRun_pieces (c : Dev nD) (i : grid0.Coords) (hi : ¬ isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (g0 : BufOf (F := F) c scQkv) (g1 : BufOf (F := F) c scAp) (g2 : BufOf (F := F) c scQ) (g3 : BufOf (F := F) c scK) (g4 : BufOf (F := F) c scV) (g5 : BufOf (F := F) c scCp) (g6 : BufOf (F := F) c scFc1) (g7 : BufOf (F := F) c scFc2) :
    (laterRun c i hi a1 h1 a2 h2 a11 h11 f1 f2 g0 g1 g2 g3 g4 g5 g6 g7).1 = outL (blkOf (a1.view.read (Elt F) f1) (a2.view.read (Elt F) f2) (scQkv.view.read (Elt F) g0) (scAp.view.read (Elt F) g1) (scQ.view.read (Elt F) g2) (scK.view.read (Elt F) g3) (scV.view.read (Elt F) g4) (scCp.view.read (Elt F) g5) (scFc1.view.read (Elt F) g6) (scFc2.view.read (Elt F) g7)) := by
  have e : (laterRun c i hi a1 h1 a2 h2 a11 h11 f1 f2 g0 g1 g2 g3 g4 g5 g6 g7).1 = outL (blkOf (View.readAt (Elt F) a1.view (Rect.unit (s := S1x512x768) ![0, 0, 0] S1x512x768.size inb_S1x512x768_S1x512x768_0_0_0).toLoadRect f1) (View.readAt (Elt F) a2.view (Rect.unit (s := S1x1024x768) ![0, 0, 0] S1x1024x768.size inb_S1x1024x768_S1x1024x768_0_0_0).toLoadRect f2) (View.readAt (Elt F) scQkv.view (Rect.unit (s := S768x2304) ![0, 0] S768x2304.size inb_S768x2304_S768x2304_0_0).toLoadRect g0) (View.readAt (Elt F) scAp.view (Rect.unit (s := S768x768) ![0, 0] S768x768.size inb_S768x768_S768x768_0_0).toLoadRect g1) (View.readAt (Elt F) scQ.view (Rect.unit (s := S768x768) ![0, 0] S768x768.size inb_S768x768_S768x768_0_0).toLoadRect g2) (View.readAt (Elt F) scK.view (Rect.unit (s := S768x768) ![0, 0] S768x768.size inb_S768x768_S768x768_0_0).toLoadRect g3) (View.readAt (Elt F) scV.view (Rect.unit (s := S768x768) ![0, 0] S768x768.size inb_S768x768_S768x768_0_0).toLoadRect g4) (View.readAt (Elt F) scCp.view (Rect.unit (s := S768x768) ![0, 0] S768x768.size inb_S768x768_S768x768_0_0).toLoadRect g5) (View.readAt (Elt F) scFc1.view (Rect.unit (s := S768x3072) ![0, 0] S768x3072.size inb_S768x3072_S768x3072_0_0).toLoadRect g6) (View.readAt (Elt F) scFc2.view (Rect.unit (s := S3072x768) ![0, 0] S3072x768.size inb_S3072x768_S3072x768_0_0).toLoadRect g7)) := rfl
  exact e.trans (outL_congr (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _))

/-- The first point's piece: the block computed from the windows and the weights just rounded. -/
theorem firstRun_pieces (c : Dev nD) (i : grid0.Coords) (hi : isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) :
    (firstRun c i hi a1 h1 a2 h2 a11 h11 f1 f2 w0 w1 w2 w3 w4 w5 w6 w7 fs).1.1 = outL (blkOf (a1.view.read (Elt F) f1) (a2.view.read (Elt F) f2) (keptQkv c w0) (keptAp c w1) (keptQ c w2) (keptK c w3) (keptV c w4) (keptCp c w5) (keptFc1 c w6) (keptFc2 c w7)) := by
  have e : (firstRun c i hi a1 h1 a2 h2 a11 h11 f1 f2 w0 w1 w2 w3 w4 w5 w6 w7 fs).1.1 = outL (blkOf (View.readAt (Elt F) a1.view (Rect.unit (s := S1x512x768) ![0, 0, 0] S1x512x768.size inb_S1x512x768_S1x512x768_0_0_0).toLoadRect f1) (View.readAt (Elt F) a2.view (Rect.unit (s := S1x1024x768) ![0, 0, 0] S1x1024x768.size inb_S1x1024x768_S1x1024x768_0_0_0).toLoadRect f2) (scQkv.view.readCov (firstRun.sl.G0_3 c w0 w1 w2 w3 w4 w5 w6 fs) (Rect.unit (s := S768x2304) ![0, 0] S768x2304.size inb_S768x2304_S768x2304_0_0).toLoadRect) (scAp.view.readCov (firstRun.sl.G1_1 c w0 w1 w2 w3 w4 w5 w6 fs) (Rect.unit (s := S768x768) ![0, 0] S768x768.size inb_S768x768_S768x768_0_0).toLoadRect) (scQ.view.readCov (firstRun.sl.G2_1 c w0 w1 w2 w3 w4 w5 w6 w7 fs) (Rect.unit (s := S768x768) ![0, 0] S768x768.size inb_S768x768_S768x768_0_0).toLoadRect) (scK.view.readCov (firstRun.sl.G3_1 c w0 w1 w2 w3 w4 w5 w6 fs) (Rect.unit (s := S768x768) ![0, 0] S768x768.size inb_S768x768_S768x768_0_0).toLoadRect) (scV.view.readCov (firstRun.sl.G4_1 c w0 w1 w2 w3 w4 w5 w6 w7 fs) (Rect.unit (s := S768x768) ![0, 0] S768x768.size inb_S768x768_S768x768_0_0).toLoadRect) (scCp.view.readCov (firstRun.sl.G5_1 c w0 w1 w2 w3 w4 w5 w6 w7 fs) (Rect.unit (s := S768x768) ![0, 0] S768x768.size inb_S768x768_S768x768_0_0).toLoadRect) (scFc1.view.readCov (firstRun.sl.G6_4 c w0 w1 w2 w3 w4 w5 w6 w7 fs) (Rect.unit (s := S768x3072) ![0, 0] S768x3072.size inb_S768x3072_S768x3072_0_0).toLoadRect) (scFc2.view.readCov (firstRun.sl.G7_4 c w0 w1 w2 w3 w4 w5 w6 w7 fs) (Rect.unit (s := S3072x768) ![0, 0] S3072x768.size inb_S3072x768_S3072x768_0_0).toLoadRect)) := rfl
  exact e.trans (outL_congr (View.readAt_full _ _ _) (View.readAt_full _ _ _) ((readCov_whole _ _ _).trans (congrArg View.canon (keptQkv_pieces c w0 w1 w2 w3 w4 w5 w6 fs))) ((readCov_whole _ _ _).trans (congrArg View.canon (keptAp_pieces c w0 w1 w2 w3 w4 w5 w6 fs))) ((readCov_whole _ _ _).trans (congrArg View.canon (keptQ_pieces c w0 w1 w2 w3 w4 w5 w6 w7 fs))) ((readCov_whole _ _ _).trans (congrArg View.canon (keptK_pieces c w0 w1 w2 w3 w4 w5 w6 fs))) ((readCov_whole _ _ _).trans (congrArg View.canon (keptV_pieces c w0 w1 w2 w3 w4 w5 w6 w7 fs))) ((readCov_whole _ _ _).trans (congrArg View.canon (keptCp_pieces c w0 w1 w2 w3 w4 w5 w6 w7 fs))) ((readCov_whole _ _ _).trans (congrArg View.canon (keptFc1_pieces c w0 w1 w2 w3 w4 w5 w6 w7 fs))) ((readCov_whole _ _ _).trans (congrArg View.canon (keptFc2_pieces c w0 w1 w2 w3 w4 w5 w6 w7 fs))))

theorem keptQkv_cover (c : Dev nD) (w : BufOf (F := F) c hbQkv) (z : S768x2304.Idx) : ∃ p ∈ keptQkvL c w, z ∈ p.1.set :=
  View.cover_of_tiledL (keptQkvL c w) S768x768.size (by sl_kernel_rfl) z
/-- The first point leaves the kept weights. -/
theorem firstRun_Qkv (c : Dev nD) (i : grid0.Coords) (hi : isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) (f : BufOf (F := F) c scQkv) :
    scQkv.view.read (Elt F) (scQkv.view.writes (Elt F) f (firstRun c i hi a1 h1 a2 h2 a11 h11 f1 f2 w0 w1 w2 w3 w4 w5 w6 w7 fs).1.2.1) = keptQkv c w0 := by
  have e : (firstRun c i hi a1 h1 a2 h2 a11 h11 f1 f2 w0 w1 w2 w3 w4 w5 w6 w7 fs).1.2.1 = firstRun.sl.G0_3 c w0 w1 w2 w3 w4 w5 w6 fs := rfl
  rw [e, keptQkv_pieces]
  exact View.read_writes_eq_canon _ _ _ (keptQkv_cover c w0)

theorem keptAp_cover (c : Dev nD) (w : BufOf (F := F) c hbAp) (z : S768x768.Idx) : ∃ p ∈ keptApL c w, z ∈ p.1.set :=
  View.cover_of_tiledL (keptApL c w) S768x768.size (by sl_kernel_rfl) z
/-- The first point leaves the kept weights. -/
theorem firstRun_Ap (c : Dev nD) (i : grid0.Coords) (hi : isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) (f : BufOf (F := F) c scAp) :
    scAp.view.read (Elt F) (scAp.view.writes (Elt F) f (firstRun c i hi a1 h1 a2 h2 a11 h11 f1 f2 w0 w1 w2 w3 w4 w5 w6 w7 fs).1.2.2.1) = keptAp c w1 := by
  have e : (firstRun c i hi a1 h1 a2 h2 a11 h11 f1 f2 w0 w1 w2 w3 w4 w5 w6 w7 fs).1.2.2.1 = firstRun.sl.G1_1 c w0 w1 w2 w3 w4 w5 w6 fs := rfl
  rw [e, keptAp_pieces]
  exact View.read_writes_eq_canon _ _ _ (keptAp_cover c w1)

theorem keptQ_cover (c : Dev nD) (w : BufOf (F := F) c hbQ) (z : S768x768.Idx) : ∃ p ∈ keptQL c w, z ∈ p.1.set :=
  View.cover_of_tiledL (keptQL c w) S768x768.size (by sl_kernel_rfl) z
/-- The first point leaves the kept weights. -/
theorem firstRun_Q (c : Dev nD) (i : grid0.Coords) (hi : isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) (f : BufOf (F := F) c scQ) :
    scQ.view.read (Elt F) (scQ.view.writes (Elt F) f (firstRun c i hi a1 h1 a2 h2 a11 h11 f1 f2 w0 w1 w2 w3 w4 w5 w6 w7 fs).1.2.2.2.1) = keptQ c w2 := by
  have e : (firstRun c i hi a1 h1 a2 h2 a11 h11 f1 f2 w0 w1 w2 w3 w4 w5 w6 w7 fs).1.2.2.2.1 = firstRun.sl.G2_1 c w0 w1 w2 w3 w4 w5 w6 w7 fs := rfl
  rw [e, keptQ_pieces]
  exact View.read_writes_eq_canon _ _ _ (keptQ_cover c w2)

theorem keptK_cover (c : Dev nD) (w : BufOf (F := F) c hbK) (z : S768x768.Idx) : ∃ p ∈ keptKL c w, z ∈ p.1.set :=
  View.cover_of_tiledL (keptKL c w) S768x768.size (by sl_kernel_rfl) z
/-- The first point leaves the kept weights. -/
theorem firstRun_K (c : Dev nD) (i : grid0.Coords) (hi : isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) (f : BufOf (F := F) c scK) :
    scK.view.read (Elt F) (scK.view.writes (Elt F) f (firstRun c i hi a1 h1 a2 h2 a11 h11 f1 f2 w0 w1 w2 w3 w4 w5 w6 w7 fs).1.2.2.2.2.1) = keptK c w3 := by
  have e : (firstRun c i hi a1 h1 a2 h2 a11 h11 f1 f2 w0 w1 w2 w3 w4 w5 w6 w7 fs).1.2.2.2.2.1 = firstRun.sl.G3_1 c w0 w1 w2 w3 w4 w5 w6 fs := rfl
  rw [e, keptK_pieces]
  exact View.read_writes_eq_canon _ _ _ (keptK_cover c w3)

theorem keptV_cover (c : Dev nD) (w : BufOf (F := F) c hbV) (z : S768x768.Idx) : ∃ p ∈ keptVL c w, z ∈ p.1.set :=
  View.cover_of_tiledL (keptVL c w) S768x768.size (by sl_kernel_rfl) z
/-- The first point leaves the kept weights. -/
theorem firstRun_V (c : Dev nD) (i : grid0.Coords) (hi : isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) (f : BufOf (F := F) c scV) :
    scV.view.read (Elt F) (scV.view.writes (Elt F) f (firstRun c i hi a1 h1 a2 h2 a11 h11 f1 f2 w0 w1 w2 w3 w4 w5 w6 w7 fs).1.2.2.2.2.2.1) = keptV c w4 := by
  have e : (firstRun c i hi a1 h1 a2 h2 a11 h11 f1 f2 w0 w1 w2 w3 w4 w5 w6 w7 fs).1.2.2.2.2.2.1 = firstRun.sl.G4_1 c w0 w1 w2 w3 w4 w5 w6 w7 fs := rfl
  rw [e, keptV_pieces]
  exact View.read_writes_eq_canon _ _ _ (keptV_cover c w4)

theorem keptCp_cover (c : Dev nD) (w : BufOf (F := F) c hbCp) (z : S768x768.Idx) : ∃ p ∈ keptCpL c w, z ∈ p.1.set :=
  View.cover_of_tiledL (keptCpL c w) S768x768.size (by sl_kernel_rfl) z
/-- The first point leaves the kept weights. -/
theorem firstRun_Cp (c : Dev nD) (i : grid0.Coords) (hi : isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) (f : BufOf (F := F) c scCp) :
    scCp.view.read (Elt F) (scCp.view.writes (Elt F) f (firstRun c i hi a1 h1 a2 h2 a11 h11 f1 f2 w0 w1 w2 w3 w4 w5 w6 w7 fs).1.2.2.2.2.2.2.1) = keptCp c w5 := by
  have e : (firstRun c i hi a1 h1 a2 h2 a11 h11 f1 f2 w0 w1 w2 w3 w4 w5 w6 w7 fs).1.2.2.2.2.2.2.1 = firstRun.sl.G5_1 c w0 w1 w2 w3 w4 w5 w6 w7 fs := rfl
  rw [e, keptCp_pieces]
  exact View.read_writes_eq_canon _ _ _ (keptCp_cover c w5)

theorem keptFc1_cover (c : Dev nD) (w : BufOf (F := F) c hbFc1) (z : S768x3072.Idx) : ∃ p ∈ keptFc1L c w, z ∈ p.1.set :=
  View.cover_of_tiledL (keptFc1L c w) S768x768.size (by sl_kernel_rfl) z
/-- The first point leaves the kept weights. -/
theorem firstRun_Fc1 (c : Dev nD) (i : grid0.Coords) (hi : isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) (f : BufOf (F := F) c scFc1) :
    scFc1.view.read (Elt F) (scFc1.view.writes (Elt F) f (firstRun c i hi a1 h1 a2 h2 a11 h11 f1 f2 w0 w1 w2 w3 w4 w5 w6 w7 fs).1.2.2.2.2.2.2.2.1) = keptFc1 c w6 := by
  have e : (firstRun c i hi a1 h1 a2 h2 a11 h11 f1 f2 w0 w1 w2 w3 w4 w5 w6 w7 fs).1.2.2.2.2.2.2.2.1 = firstRun.sl.G6_4 c w0 w1 w2 w3 w4 w5 w6 w7 fs := rfl
  rw [e, keptFc1_pieces]
  exact View.read_writes_eq_canon _ _ _ (keptFc1_cover c w6)

theorem keptFc2_cover (c : Dev nD) (w : BufOf (F := F) c hbFc2) (z : S3072x768.Idx) : ∃ p ∈ keptFc2L c w, z ∈ p.1.set :=
  View.cover_of_tiledL (keptFc2L c w) S768x768.size (by sl_kernel_rfl) z
/-- The first point leaves the kept weights. -/
theorem firstRun_Fc2 (c : Dev nD) (i : grid0.Coords) (hi : isFirst i)
    (a1 : Memref sig .tc .vmem S1x512x768 .f32) (h1 : a1.IsWhole) (a2 : Memref sig .tc .vmem S1x1024x768 .f32) (h2 : a2.IsWhole)
    (a11 : Memref sig .tc .vmem S1x512x768 .f32) (h11 : a11.IsWhole)
    (f1 : BufOf (F := F) c a1) (f2 : BufOf (F := F) c a2)
    (w0 : BufOf (F := F) c hbQkv) (w1 : BufOf (F := F) c hbAp) (w2 : BufOf (F := F) c hbQ) (w3 : BufOf (F := F) c hbK) (w4 : BufOf (F := F) c hbV) (w5 : BufOf (F := F) c hbCp) (w6 : BufOf (F := F) c hbFc1) (w7 : BufOf (F := F) c hbFc2) (fs : BufOf (F := F) c scStage) (f : BufOf (F := F) c scFc2) :
    scFc2.view.read (Elt F) (scFc2.view.writes (Elt F) f (firstRun c i hi a1 h1 a2 h2 a11 h11 f1 f2 w0 w1 w2 w3 w4 w5 w6 w7 fs).1.2.2.2.2.2.2.2.2) = keptFc2 c w7 := by
  have e : (firstRun c i hi a1 h1 a2 h2 a11 h11 f1 f2 w0 w1 w2 w3 w4 w5 w6 w7 fs).1.2.2.2.2.2.2.2.2 = firstRun.sl.G7_4 c w0 w1 w2 w3 w4 w5 w6 w7 fs := rfl
  rw [e, keptFc2_pieces]
  exact View.read_writes_eq_canon _ _ _ (keptFc2_cover c w7)

end Cert.KernelIdeal.Hand

end
-- ==== Proof.Ideal.Launch.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ViewIndex
public import proofs.«01_k».proof.Proof.Ideal.Block
public import proofs.«01_k».proof.Proof.Ideal.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The program up to its kernel call -/

/-- The buffers when the kernel call is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- A window's block at a grid point, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel's own semaphores and the weights in high-bandwidth memory -/

abbrev osem0 : Fin 8 → SemLoc sig := fun j => (![SemLoc.dma 6, SemLoc.dma 7, SemLoc.dma 8, SemLoc.dma 9, SemLoc.dma 10, SemLoc.dma 11, SemLoc.dma 12, SemLoc.dma 13] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5, 6, 7] (by decide) (by decide)]; rfl
/-- The arguments the body's transfers read. -/
def H0 : Finset (Ref sig .tc) := {main_arg6, main_arg8, main_arg14, main_arg16, main_arg18, main_arg20, main_arg24, main_arg26}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c hbQkv (V m c main_arg6) ∗ pt c hbAp (V m c main_arg8) ∗ pt c hbQ (V m c main_arg14) ∗ pt c hbK (V m c main_arg16) ∗ pt c hbV (V m c main_arg18) ∗ pt c hbCp (V m c main_arg20) ∗ pt c hbFc1 (V m c main_arg24) ∗ pt c hbFc2 (V m c main_arg26)) := by
  rw [BI.bigSep_eq_bigSepL_of_eq [main_arg6, main_arg8, main_arg14, main_arg16, main_arg18, main_arg20, main_arg24, main_arg26] (by decide) (by decide)]; rfl

/-- A whole buffer is held by its own elements. -/
theorem own_whole (c : Dev nD) (b : Ref sig .tc) (f : BufOf (F := F) c (Memref.whole b)) : own c (Memref.whole b) f = pt c (Memref.whole b) f := by
  show (_ ↦[(View.whole b).set]{fullShare} f) = _
  rw [View.set_whole]
theorem own_of (c : Dev nD) (b : Ref sig .tc) (f : BufOf (F := F) c (Memref.whole b)) : pt c (Memref.whole b) f ⊢ own c (Memref.whole b) f := by rw [own_whole]
theorem of_own (c : Dev nD) (b : Ref sig .tc) (f : BufOf (F := F) c (Memref.whole b)) : own c (Memref.whole b) f ⊢ pt c (Memref.whole b) f := by rw [own_whole]

/-! ## The invariant between grid points -/

/-- What is held between points: the weight buffers, at the rounded weights once the first point has run, the landing slots, the generator register, the
    semaphores at zero and the weights as launched. -/
def Inv (c : Dev nD) (n : ℕ) : sProp 𝕄 :=
  iprop((∃ f, ⌜n ≠ 0 → scQkv.view.read (Elt F) f = keptQkv c (V m c main_arg6)⌝ ∗ own c scQkv f) ∗ (∃ f, ⌜n ≠ 0 → scAp.view.read (Elt F) f = keptAp c (V m c main_arg8)⌝ ∗ own c scAp f) ∗ (∃ f, ⌜n ≠ 0 → scQ.view.read (Elt F) f = keptQ c (V m c main_arg14)⌝ ∗ own c scQ f) ∗ (∃ f, ⌜n ≠ 0 → scK.view.read (Elt F) f = keptK c (V m c main_arg16)⌝ ∗ own c scK f) ∗ (∃ f, ⌜n ≠ 0 → scV.view.read (Elt F) f = keptV c (V m c main_arg18)⌝ ∗ own c scV f) ∗ (∃ f, ⌜n ≠ 0 → scCp.view.read (Elt F) f = keptCp c (V m c main_arg20)⌝ ∗ own c scCp f) ∗ (∃ f, ⌜n ≠ 0 → scFc1.view.read (Elt F) f = keptFc1 c (V m c main_arg24)⌝ ∗ own c scFc1 f) ∗ (∃ f, ⌜n ≠ 0 → scFc2.view.read (Elt F) f = keptFc2 c (V m c main_arg26)⌝ ∗ own c scFc2 f)
    ∗ (∃ f, pt c scStage f) ∗ (∃ r, prngReg c r)
    ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0
    ∗ pt c hbQkv (V m c main_arg6) ∗ pt c hbAp (V m c main_arg8) ∗ pt c hbQ (V m c main_arg14) ∗ pt c hbK (V m c main_arg16) ∗ pt c hbV (V m c main_arg18) ∗ pt c hbCp (V m c main_arg20) ∗ pt c hbFc1 (V m c main_arg24) ∗ pt c hbFc2 (V m c main_arg26))

theorem Inv_in (c : Dev nD) : Pipeline.ΦD osem0 spec0 H0 (V m) c ⊢ Inv m c 0 := by
  rw [Pipeline.ΦD_eq, scopedRest0_eq, ownSems00_eq, hbmPts0_eq]
  unfold Inv
  iintro ⟨⟨⟨%g0, G0⟩, ⟨%g1, G1⟩, ⟨%g2, G2⟩, ⟨%g3, G3⟩, ⟨%g4, G4⟩, ⟨%g5, G5⟩, ⟨%g6, G6⟩, ⟨%g7, G7⟩, Gs⟩, Hr, ⟨S0, S1, S2, S3, S4, S5, S6, S7⟩, B0, B1, B2, B3, B4, B5, B6, B7⟩
  isplitl [G0]
  · iexists g0; isplitr; · ipureintro; intro h; exact absurd rfl h
    iapply (own_of c cc0_scratch0 g0); iexact G0
  isplitl [G1]
  · iexists g1; isplitr; · ipureintro; intro h; exact absurd rfl h
    iapply (own_of c cc0_scratch1 g1); iexact G1
  isplitl [G2]
  · iexists g2; isplitr; · ipureintro; intro h; exact absurd rfl h
    iapply (own_of c cc0_scratch2 g2); iexact G2
  isplitl [G3]
  · iexists g3; isplitr; · ipureintro; intro h; exact absurd rfl h
    iapply (own_of c cc0_scratch3 g3); iexact G3
  isplitl [G4]
  · iexists g4; isplitr; · ipureintro; intro h; exact absurd rfl h
    iapply (own_of c cc0_scratch4 g4); iexact G4
  isplitl [G5]
  · iexists g5; isplitr; · ipureintro; intro h; exact absurd rfl h
    iapply (own_of c cc0_scratch5 g5); iexact G5
  isplitl [G6]
  · iexists g6; isplitr; · ipureintro; intro h; exact absurd rfl h
    iapply (own_of c cc0_scratch6 g6); iexact G6
  isplitl [G7]
  · iexists g7; isplitr; · ipureintro; intro h; exact absurd rfl h
    iapply (own_of c cc0_scratch7 g7); iexact G7
  isplitl [Gs]; · iexact Gs
  isplitl [Hr]; · iexact Hr
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

theorem Inv_out (c : Dev nD) (n : ℕ) : Inv m c n ⊢ Pipeline.ΦD osem0 spec0 H0 (V m) c := by
  rw [Pipeline.ΦD_eq, scopedRest0_eq, ownSems00_eq, hbmPts0_eq]
  unfold Inv
  iintro ⟨⟨%g0, -, G0⟩, ⟨%g1, -, G1⟩, ⟨%g2, -, G2⟩, ⟨%g3, -, G3⟩, ⟨%g4, -, G4⟩, ⟨%g5, -, G5⟩, ⟨%g6, -, G6⟩, ⟨%g7, -, G7⟩, Gs, Hr, S0, S1, S2, S3, S4, S5, S6, S7, B0, B1, B2, B3, B4, B5, B6, B7⟩
  isplitl [G0 G1 G2 G3 G4 G5 G6 G7 Gs]
  · isplitl [G0]; · iexists g0; iapply (of_own c cc0_scratch0 g0); iexact G0
    isplitl [G1]; · iexists g1; iapply (of_own c cc0_scratch1 g1); iexact G1
    isplitl [G2]; · iexists g2; iapply (of_own c cc0_scratch2 g2); iexact G2
    isplitl [G3]; · iexists g3; iapply (of_own c cc0_scratch3 g3); iexact G3
    isplitl [G4]; · iexists g4; iapply (of_own c cc0_scratch4 g4); iexact G4
    isplitl [G5]; · iexists g5; iapply (of_own c cc0_scratch5 g5); iexact G5
    isplitl [G6]; · iexists g6; iapply (of_own c cc0_scratch6 g6); iexact G6
    isplitl [G7]; · iexists g7; iapply (of_own c cc0_scratch7 g7); iexact G7
    iexact Gs
  isplitl [Hr]; · iexact Hr
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

/-! ## The proof data -/

/-- The block's result at a point, from the windows' blocks and the rounded weights. -/
def outAt (c : Dev nD) (t : Fin cfg0.N) : FVec F S1x512x768 .f32 :=
  blkOf (iblk m c 0 t) (iblk m c 1 t) (keptQkv c (V m c main_arg6)) (keptAp c (V m c main_arg8)) (keptQ c (V m c main_arg14)) (keptK c (V m c main_arg16)) (keptV c (V m c main_arg18)) (keptCp c (V m c main_arg20)) (keptFc1 c (V m c main_arg24)) (keptFc2 c (V m c main_arg26))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

/-- The guards hold at the first point only. -/
theorem isFirst_iff (t : Fin cfg0.N) : isFirst (grid0.coords t) ↔ t.val = 0 := by
  revert t; show ∀ t : Fin grid0.N, _; decide

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem bodyAt0_eq (t : Fin cfg0.N) : bodyAt0 (F := F) t = bodyOn (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) := rfl

set_option maxHeartbeats 4000000 in
theorem sound_later (c : Dev nD) (t : Fin cfg0.N) (ht : t.val ≠ 0) :
    bodyPre m c t ⊢ wp frame (wpE (defs₀ (F := F)) Variants.none c none) Set.univ (bodyAt0 t) (fun _ => bodyPost m c t) := by
  unfold bodyPre bodyPost
  rw [bodyAt0_eq, after0_0, after0_1, after0_2]
  simp only [before0 m (dats m 0 c) (A_eq m c 0) (after0_0 m c), before1 m (dats m 0 c) (A_eq m c 1) (after0_1 m c)]
  rw [show (dats m 0 c).Φ t.succ = Inv m c (t.val + 1) from rfl, show (dats m 0 c).Φ t.castSucc = Inv m c t.val from rfl]
  unfold Dat.owesAt Pipeline.owesWithin
  rw [show (dats m 0 c).owed t.castSucc = 0 from rfl, show (dats m 0 c).owed t.succ = 0 from rfl]
  unfold Inv owns
  iintro ⟨⟨⟨%g0, %e0, G0⟩, ⟨%g1, %e1, G1⟩, ⟨%g2, %e2, G2⟩, ⟨%g3, %e3, G3⟩, ⟨%g4, %e4, G4⟩, ⟨%g5, %e5, G5⟩, ⟨%g6, %e6, G6⟩, ⟨%g7, %e7, G7⟩, ⟨%fs, Gs⟩, Hr, S0, S1, S2, S3, S4, S5, S6, S7, B0, B1, B2, B3, B4, B5, B6, B7⟩, ⟨%W, -, HW⟩, ⟨%d0, %f0, %hf0, H0⟩, ⟨%d1, %f1, %hf1, H1⟩, ⟨%d2, %f2, -, H2⟩⟩
  have hp := laterRun_pieces (F := F) c (grid0.coords t) (fun h => ht ((isFirst_iff t).mp h)) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 g0 g1 g2 g3 g4 g5 g6 g7
  rw [hf0, hf1, e0 ht, e1 ht, e2 ht, e3 ht, e4 ht, e5 ht, e6 ht, e7 ht] at hp
  iapply ((laterRun (F := F) c (grid0.coords t) (fun h => ht ((isFirst_iff t).mp h)) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 g0 g1 g2 g3 g4 g5 g6 g7).2 W _)
  isplitl [H0]; · iexact H0
  isplitl [H1]; · iexact H1
  isplitl [H2]; · iexists _; iexact H2
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [HW]; · iexact HW
  iintro ⟨H0, H1, ⟨%q2, H2⟩, G0, G1, G2, G3, G4, G5, G6, G7, HW⟩
  isplitl [G0 G1 G2 G3 G4 G5 G6 G7 Gs Hr S0 S1 S2 S3 S4 S5 S6 S7 B0 B1 B2 B3 B4 B5 B6 B7]
  · isplitl [G0]
    · iexists g0; isplitr; swap; · iexact G0
      ipureintro; intro _; exact e0 ht
    isplitl [G1]
    · iexists g1; isplitr; swap; · iexact G1
      ipureintro; intro _; exact e1 ht
    isplitl [G2]
    · iexists g2; isplitr; swap; · iexact G2
      ipureintro; intro _; exact e2 ht
    isplitl [G3]
    · iexists g3; isplitr; swap; · iexact G3
      ipureintro; intro _; exact e3 ht
    isplitl [G4]
    · iexists g4; isplitr; swap; · iexact G4
      ipureintro; intro _; exact e4 ht
    isplitl [G5]
    · iexists g5; isplitr; swap; · iexact G5
      ipureintro; intro _; exact e5 ht
    isplitl [G6]
    · iexists g6; isplitr; swap; · iexact G6
      ipureintro; intro _; exact e6 ht
    isplitl [G7]
    · iexists g7; isplitr; swap; · iexact G7
      ipureintro; intro _; exact e7 ht
    isplitl [Gs]; · iexists fs; iexact Gs
    isplitl [Hr]; · iexact Hr
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [HW]
  · iexists _; isplitr; swap; · iexact HW
    ipureintro; exact fun _ _ => Or.inl trivial
  isplitl [H0]
  · iexists _; isplitr; swap; · iexact H0
    ipureintro; exact hf0
  isplitl [H1]
  · iexists _; isplitr; swap; · iexact H1
    ipureintro; exact hf1
  iexists _; isplitr; swap; · iexact H2
  ipureintro
  rw [hp]
  exact View.read_writes_full _ _ _ _ _

set_option maxHeartbeats 4000000 in
theorem sound_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost
  rw [bodyAt0_eq, after0_0, after0_1, after0_2]
  simp only [before0 m (dats m 0 c) (A_eq m c 0) (after0_0 m c), before1 m (dats m 0 c) (A_eq m c 1) (after0_1 m c)]
  rw [show (dats m 0 c).Φ t.succ = Inv m c (t.val + 1) from rfl, show (dats m 0 c).Φ t.castSucc = Inv m c t.val from rfl]
  unfold Dat.owesAt Pipeline.owesWithin
  rw [show (dats m 0 c).owed t.castSucc = 0 from rfl, show (dats m 0 c).owed t.succ = 0 from rfl]
  unfold Inv owns
  iintro ⟨⟨⟨%g0, %e0, G0⟩, ⟨%g1, %e1, G1⟩, ⟨%g2, %e2, G2⟩, ⟨%g3, %e3, G3⟩, ⟨%g4, %e4, G4⟩, ⟨%g5, %e5, G5⟩, ⟨%g6, %e6, G6⟩, ⟨%g7, %e7, G7⟩, ⟨%fs, Gs⟩, Hr, S0, S1, S2, S3, S4, S5, S6, S7, B0, B1, B2, B3, B4, B5, B6, B7⟩, ⟨%W, -, HW⟩, ⟨%d0, %f0, %hf0, H0⟩, ⟨%d1, %f1, %hf1, H1⟩, ⟨%d2, %f2, -, H2⟩⟩
  have hp := firstRun_pieces (F := F) c (grid0.coords t) ((isFirst_iff t).mpr ht) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 (V m c main_arg6) (V m c main_arg8) (V m c main_arg14) (V m c main_arg16) (V m c main_arg18) (V m c main_arg20) (V m c main_arg24) (V m c main_arg26) fs
  rw [hf0, hf1] at hp
  have k0 := firstRun_Qkv (F := F) c (grid0.coords t) ((isFirst_iff t).mpr ht) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 (V m c main_arg6) (V m c main_arg8) (V m c main_arg14) (V m c main_arg16) (V m c main_arg18) (V m c main_arg20) (V m c main_arg24) (V m c main_arg26) fs
  have k1 := firstRun_Ap (F := F) c (grid0.coords t) ((isFirst_iff t).mpr ht) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 (V m c main_arg6) (V m c main_arg8) (V m c main_arg14) (V m c main_arg16) (V m c main_arg18) (V m c main_arg20) (V m c main_arg24) (V m c main_arg26) fs
  have k2 := firstRun_Q (F := F) c (grid0.coords t) ((isFirst_iff t).mpr ht) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 (V m c main_arg6) (V m c main_arg8) (V m c main_arg14) (V m c main_arg16) (V m c main_arg18) (V m c main_arg20) (V m c main_arg24) (V m c main_arg26) fs
  have k3 := firstRun_K (F := F) c (grid0.coords t) ((isFirst_iff t).mpr ht) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 (V m c main_arg6) (V m c main_arg8) (V m c main_arg14) (V m c main_arg16) (V m c main_arg18) (V m c main_arg20) (V m c main_arg24) (V m c main_arg26) fs
  have k4 := firstRun_V (F := F) c (grid0.coords t) ((isFirst_iff t).mpr ht) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 (V m c main_arg6) (V m c main_arg8) (V m c main_arg14) (V m c main_arg16) (V m c main_arg18) (V m c main_arg20) (V m c main_arg24) (V m c main_arg26) fs
  have k5 := firstRun_Cp (F := F) c (grid0.coords t) ((isFirst_iff t).mpr ht) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 (V m c main_arg6) (V m c main_arg8) (V m c main_arg14) (V m c main_arg16) (V m c main_arg18) (V m c main_arg20) (V m c main_arg24) (V m c main_arg26) fs
  have k6 := firstRun_Fc1 (F := F) c (grid0.coords t) ((isFirst_iff t).mpr ht) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 (V m c main_arg6) (V m c main_arg8) (V m c main_arg14) (V m c main_arg16) (V m c main_arg18) (V m c main_arg20) (V m c main_arg24) (V m c main_arg26) fs
  have k7 := firstRun_Fc2 (F := F) c (grid0.coords t) ((isFirst_iff t).mpr ht) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 (V m c main_arg6) (V m c main_arg8) (V m c main_arg14) (V m c main_arg16) (V m c main_arg18) (V m c main_arg20) (V m c main_arg24) (V m c main_arg26) fs
  iapply ((firstRun (F := F) c (grid0.coords t) ((isFirst_iff t).mpr ht) (st0_0 t) (hstage0_0 ((cfg0.slots t 0).cast nbuf0_0)) (st0_1 t) (hstage0_1 ((cfg0.slots t 1).cast nbuf0_1)) (st0_2 t) (hstage0_2 ((cfg0.slots t 2).cast nbuf0_2)) f0 f1 (V m c main_arg6) (V m c main_arg8) (V m c main_arg14) (V m c main_arg16) (V m c main_arg18) (V m c main_arg20) (V m c main_arg24) (V m c main_arg26) fs).2 W _)
  isplitl [H0]; · iexact H0
  isplitl [H1]; · iexact H1
  isplitl [H2]; · iexists _; iexact H2
  isplitl [G0]; · iexists g0; iexact G0
  isplitl [G1]; · iexists g1; iexact G1
  isplitl [G2]; · iexists g2; iexact G2
  isplitl [G3]; · iexists g3; iexact G3
  isplitl [G4]; · iexists g4; iexact G4
  isplitl [G5]; · iexists g5; iexact G5
  isplitl [G6]; · iexists g6; iexact G6
  isplitl [G7]; · iexists g7; iexact G7
  isplitl [Gs]; · iexact Gs
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [HW]; · iexact HW
  iintro ⟨H0, H1, ⟨%q2, H2⟩, ⟨%p0, G0⟩, ⟨%p1, G1⟩, ⟨%p2, G2⟩, ⟨%p3, G3⟩, ⟨%p4, G4⟩, ⟨%p5, G5⟩, ⟨%p6, G6⟩, ⟨%p7, G7⟩, Gs, S0, S1, S2, S3, S4, S5, S6, S7, B0, B1, B2, B3, B4, B5, B6, B7, ⟨%W2, HW⟩⟩
  isplitl [G0 G1 G2 G3 G4 G5 G6 G7 Gs Hr S0 S1 S2 S3 S4 S5 S6 S7 B0 B1 B2 B3 B4 B5 B6 B7]
  · isplitl [G0]
    · iexists _; isplitr; swap; · iexact G0
      ipureintro; intro _; exact k0 p0
    isplitl [G1]
    · iexists _; isplitr; swap; · iexact G1
      ipureintro; intro _; exact k1 p1
    isplitl [G2]
    · iexists _; isplitr; swap; · iexact G2
      ipureintro; intro _; exact k2 p2
    isplitl [G3]
    · iexists _; isplitr; swap; · iexact G3
      ipureintro; intro _; exact k3 p3
    isplitl [G4]
    · iexists _; isplitr; swap; · iexact G4
      ipureintro; intro _; exact k4 p4
    isplitl [G5]
    · iexists _; isplitr; swap; · iexact G5
      ipureintro; intro _; exact k5 p5
    isplitl [G6]
    · iexists _; isplitr; swap; · iexact G6
      ipureintro; intro _; exact k6 p6
    isplitl [G7]
    · iexists _; isplitr; swap; · iexact G7
      ipureintro; intro _; exact k7 p7
    isplitl [Gs]; · iexact Gs
    isplitl [Hr]; · iexact Hr
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [HW]
  · iexists _; isplitr; swap; · iexact HW
    ipureintro; exact fun _ _ => Or.inl trivial
  isplitl [H0]
  · iexists _; isplitr; swap; · iexact H0
    ipureintro; exact hf0
  isplitl [H1]
  · iexists _; isplitr; swap; · iexact H1
    ipureintro; exact hf1
  iexists _; isplitr; swap; · iexact H2
  ipureintro
  rw [hp]
  exact View.read_writes_full _ _ _ _ _

theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_first m c t ht
  · exact sound_later m c t ht

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends with the windows' arrays at the proof data's, every other buffer as launched and every semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => Inv_in m c) (hout := fun c => Inv_out m c _)

/-- The arguments a run leaves are the launch's. -/
theorem args_of (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  ⟨((h c).1 0).trans (((dats m 0 c).arrAt_in 0 rfl _).trans (A_eq m c 0)), ((h c).1 1).trans (((dats m 0 c).arrAt_in 1 rfl _).trans (A_eq m c 1)),
   (h c).2 main_arg2 (Pipeline.mem_restRefs_of main_arg2 (by decide) (by decide)),
   (h c).2 main_arg3 (Pipeline.mem_restRefs_of main_arg3 (by decide) (by decide)),
   (h c).2 main_arg4 (Pipeline.mem_restRefs_of main_arg4 (by decide) (by decide)),
   (h c).2 main_arg5 (Pipeline.mem_restRefs_of main_arg5 (by decide) (by decide)),
   (h c).2 main_arg6 (Pipeline.mem_restRefs_of main_arg6 (by decide) (by decide)),
   (h c).2 main_arg7 (Pipeline.mem_restRefs_of main_arg7 (by decide) (by decide)),
   (h c).2 main_arg8 (Pipeline.mem_restRefs_of main_arg8 (by decide) (by decide)),
   (h c).2 main_arg9 (Pipeline.mem_restRefs_of main_arg9 (by decide) (by decide)),
   (h c).2 main_arg10 (Pipeline.mem_restRefs_of main_arg10 (by decide) (by decide)),
   (h c).2 main_arg11 (Pipeline.mem_restRefs_of main_arg11 (by decide) (by decide)),
   (h c).2 main_arg12 (Pipeline.mem_restRefs_of main_arg12 (by decide) (by decide)),
   (h c).2 main_arg13 (Pipeline.mem_restRefs_of main_arg13 (by decide) (by decide)),
   (h c).2 main_arg14 (Pipeline.mem_restRefs_of main_arg14 (by decide) (by decide)),
   (h c).2 main_arg15 (Pipeline.mem_restRefs_of main_arg15 (by decide) (by decide)),
   (h c).2 main_arg16 (Pipeline.mem_restRefs_of main_arg16 (by decide) (by decide)),
   (h c).2 main_arg17 (Pipeline.mem_restRefs_of main_arg17 (by decide) (by decide)),
   (h c).2 main_arg18 (Pipeline.mem_restRefs_of main_arg18 (by decide) (by decide)),
   (h c).2 main_arg19 (Pipeline.mem_restRefs_of main_arg19 (by decide) (by decide)),
   (h c).2 main_arg20 (Pipeline.mem_restRefs_of main_arg20 (by decide) (by decide)),
   (h c).2 main_arg21 (Pipeline.mem_restRefs_of main_arg21 (by decide) (by decide)),
   (h c).2 main_arg22 (Pipeline.mem_restRefs_of main_arg22 (by decide) (by decide)),
   (h c).2 main_arg23 (Pipeline.mem_restRefs_of main_arg23 (by decide) (by decide)),
   (h c).2 main_arg24 (Pipeline.mem_restRefs_of main_arg24 (by decide) (by decide)),
   (h c).2 main_arg25 (Pipeline.mem_restRefs_of main_arg25 (by decide) (by decide)),
   (h c).2 main_arg26 (Pipeline.mem_restRefs_of main_arg26 (by decide) (by decide)),
   (h c).2 main_arg27 (Pipeline.mem_restRefs_of main_arg27 (by decide) (by decide))⟩

/-- Every run leaves the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))
      ∧ r.2.sem = fun _ => 0) :=
  (θ_run defs _ _).mono (fun r h => ⟨args_of m r h.1, h.2⟩) (run_main m ρ)

/-- The result a run leaves, beside the arguments. -/
theorem value_run : θ_run defs (onTc (τ := τ) (main (F := F))) ⟨m, fun _ => 0, ρ⟩ (fun r => ∀ c : Dev nD,
      r.2.mem ((c.tc : Thread nD τ).loc main_v0) = (dats m 0 c).arrAt 2 cfg0.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨(h.1 c).1 2, args_of m r h.1 c⟩) (run_main m ρ)

end Cert.KernelIdeal.Hand

end
-- ==== Proof.Frames.lean ====
module

public import proofs.«01_k».proof.Defs
public import proofs.«01_k».proof.Proof.Launch
public import proofs.«01_k».proof.Proof.Ideal.Launch
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- Every run of the kernel leaves its arguments and ends with every semaphore at zero. -/
theorem frame_kernel : Cert.quiescent_Kernel (hKernel := Cert.Kernel.Gen.facts) := fun m ρ _ => Cert.Kernel.Hand.frame m ρ
/-- The same of the kernel over the extended reals. -/
theorem frame_ideal : Cert.quiescent_KernelIdeal (hKernelIdeal := Cert.KernelIdeal.Gen.facts) := fun m ρ _ => Cert.KernelIdeal.Hand.frame m ρ
/-- The same of the reference, which declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)
/-- The named constants are what the kernel's constants round. -/
theorem names_kept : Cert.preserves_Kernel_KernelIdeal :=
  ⟨IdealRules.named_const.statement Cert.KernelIdeal.κ "clip" .bf16 0x428C#16 ⊤ rfl,
   IdealRules.named_const.statement Cert.KernelIdeal.κ "cubic" .bf16 0x3D37#16 ((12003091 / 268435456 : ℝ) : EReal) rfl,
   IdealRules.named_const.statement Cert.KernelIdeal.κ "root_2_over_pi" .bf16 0x3F4C#16 ((6693141 / 8388608 : ℝ) : EReal) rfl⟩

end Cert.Proof

end
-- ==== Proof.Value.Real.lean ====
module

public import Idealize.ShloMosaic.Lib.Pointwise
public import Idealize.ShloMosaic.Lib.Pipeline.ValueKit

@[expose] public section

set_option maxRecDepth 16384

noncomputable section

open Idealize.ShloMosaic

namespace Cert.Val

/-- The constant added to a variance, as a real. -/
def epsR : ℝ := 8796093 / 2 ^ 43
/-- The constant added to a softmax's denominator, as a real. -/
def tinyR : ℝ := 10633824 / 2 ^ 123

/-- The constant added to a variance is positive. -/
theorem epsR_pos : 0 < epsR := by unfold epsR; positivity
/-- The constant added to a denominator is positive. -/
theorem tinyR_pos : 0 < tinyR := by unfold tinyR; positivity

/-- The value of the word of 1e-6. -/
theorem lit_eps : Ideal.ofBits .f32 0x358637BD#32 = ((epsR : ℝ) : EReal) := by
  unfold epsR; simp [Ideal.ofBits, Ideal.ieee, -EReal.coe_mul]; norm_num
/-- The value of the word of 1e-30. -/
theorem lit_tiny : Ideal.ofBits .f32 0x0DA24260#32 = ((tinyR : ℝ) : EReal) := by
  unfold tinyR; simp [Ideal.ofBits, Ideal.ieee, -EReal.coe_mul]; norm_num
/-- The value of the word of 768. -/
theorem lit_768 : Ideal.ofBits .f32 0x44400000#32 = ((768 : ℝ) : EReal) := by
  simp [Ideal.ofBits, Ideal.ieee, -EReal.coe_mul]; norm_num
/-- The value of the word of 1/8. -/
theorem lit_eighth : Ideal.ofBits .f32 0x3E000000#32 = ((1 / 8 : ℝ) : EReal) := by
  simp [Ideal.ofBits, Ideal.ieee, -EReal.coe_mul]; norm_num
/-- The value of the word of 1/2. -/
theorem lit_half : Ideal.ofBits .f32 0x3F000000#32 = ((1 / 2 : ℝ) : EReal) := by
  simp [Ideal.ofBits, Ideal.ieee, -EReal.coe_mul]; norm_num
/-- The same of its bfloat16 word. -/
theorem lit_half16 : Ideal.ofBits .bf16 0x3F00#16 = ((1 / 2 : ℝ) : EReal) := by
  simp [Ideal.ofBits, Ideal.ieee, -EReal.coe_mul]; norm_num
/-- The value of the gelu's cubic coefficient. -/
theorem lit_cubic : Ideal.ofBits .f32 0x3D372713#32 = ((12003091 / 268435456 : ℝ) : EReal) := by
  simp [Ideal.ofBits, Ideal.ieee, -EReal.coe_mul]; norm_num
/-- The value of the gelu's outer coefficient. -/
theorem lit_root : Ideal.ofBits .f32 0x3F4C422A#32 = ((6693141 / 8388608 : ℝ) : EReal) := by
  simp [Ideal.ofBits, Ideal.ieee, -EReal.coe_mul]; norm_num

/-- A finite sum of reals, each read as an extended real, is the sum of the reals. -/
theorem sum_real {ι : Type*} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The quotient of two reals, read as extended ones. -/
theorem div_real (a : ℝ) {b : ℝ} (h : b ≠ 0) : Ideal.div ((a : ℝ) : EReal) ((b : ℝ) : EReal) = ((a / b : ℝ) : EReal) := by
  rw [Ideal.div_coe h, ← EReal.coe_mul]; congr 1; ring

/-- The root of a real that is not negative. -/
theorem sqrt_real {a : ℝ} (h : 0 ≤ a) : Ideal.sqrt ((a : ℝ) : EReal) = ((Real.sqrt a : ℝ) : EReal) := by
  rw [Ideal.sqrt_coe, if_neg (not_lt.mpr h)]

/-- The reciprocal root of a positive real. -/
theorem rsqrt_real {a : ℝ} (h : 0 < a) : Ideal.rsqrt ((a : ℝ) : EReal) = (((Real.sqrt a)⁻¹ : ℝ) : EReal) := by
  rw [Ideal.rsqrt_coe, if_neg (not_lt.mpr h.le), if_neg h.ne']

/-- A row's mean. -/
def meanR (x : Fin 768 → ℝ) : ℝ := (∑ k, x k) / 768
/-- A row's variance. -/
def varR (x : Fin 768 → ℝ) : ℝ := (∑ k, (x k - meanR x) * (x k - meanR x)) / 768
/-- The layer norm of a row, without gain and bias. -/
def lnR (x : Fin 768 → ℝ) (j : Fin 768) : ℝ := (x j - meanR x) / Real.sqrt (varR x + epsR)

/-- A variance is not negative. -/
theorem varR_nonneg (x : Fin 768 → ℝ) : 0 ≤ varR x :=
  div_nonneg (Finset.sum_nonneg fun k _ => mul_self_nonneg _) (by norm_num)

/-- A variance and its constant are together positive. -/
theorem varR_pos (x : Fin 768 → ℝ) : 0 < varR x + epsR := add_pos_of_nonneg_of_pos (varR_nonneg x) epsR_pos

/-- The variance is the mean of the squares less the square of the mean. -/
theorem varR_eq (x : Fin 768 → ℝ) : (∑ k, x k * x k) / 768 - meanR x * meanR x = varR x := by
  have h : (∑ k, (x k - meanR x) * (x k - meanR x)) = (∑ k, x k * x k) - 2 * meanR x * (∑ k, x k) + 768 * (meanR x * meanR x) := by
    have : ∀ k, (x k - meanR x) * (x k - meanR x) = x k * x k - 2 * meanR x * x k + meanR x * meanR x := fun k => by ring
    simp only [this, Finset.sum_add_distrib, Finset.sum_sub_distrib, ← Finset.mul_sum, Finset.sum_const, Finset.card_univ,
      Fintype.card_fin, nsmul_eq_mul]
    push_cast; ring
  have hs : (∑ k, x k) = 768 * meanR x := by unfold meanR; ring
  unfold varR; rw [h, hs]; ring

/-- The layer norm as the kernel computes it, on real numbers read as extended ones. -/
theorem ln_kernel (x : Fin 768 → ℝ) (j : Fin 768) :
    (((x j : ℝ) : EReal) - Ideal.div (∑ k, ((x k : ℝ) : EReal)) (Ideal.ofBits .f32 0x44400000#32))
      * Ideal.rsqrt (Ideal.div (∑ k, ((x k : ℝ) : EReal) * ((x k : ℝ) : EReal)) (Ideal.ofBits .f32 0x44400000#32)
          - Ideal.div (∑ k, ((x k : ℝ) : EReal)) (Ideal.ofBits .f32 0x44400000#32)
            * Ideal.div (∑ k, ((x k : ℝ) : EReal)) (Ideal.ofBits .f32 0x44400000#32)
          + Ideal.ofBits .f32 0x358637BD#32)
    = ((lnR x j : ℝ) : EReal) := by
  simp only [lit_768, lit_eps, ← EReal.coe_mul, sum_real, div_real _ (by norm_num : (768 : ℝ) ≠ 0), ← EReal.coe_sub, ← EReal.coe_add]
  have e : (∑ k, x k * x k) / 768 - (∑ k, x k) / 768 * ((∑ k, x k) / 768) = varR x := varR_eq x
  rw [e, rsqrt_real (varR_pos x), ← EReal.coe_mul]
  rfl

/-- The layer norm as the reference computes it. -/
theorem ln_reference (x : Fin 768 → ℝ) (j : Fin 768) :
    Ideal.div (((x j : ℝ) : EReal) - Ideal.div (∑ k, ((x k : ℝ) : EReal)) (Ideal.ofBits .f32 0x44400000#32))
      (Ideal.sqrt (Ideal.div (∑ k, (((x k : ℝ) : EReal) - Ideal.div (∑ k, ((x k : ℝ) : EReal)) (Ideal.ofBits .f32 0x44400000#32))
            * (((x k : ℝ) : EReal) - Ideal.div (∑ k, ((x k : ℝ) : EReal)) (Ideal.ofBits .f32 0x44400000#32))) (Ideal.ofBits .f32 0x44400000#32)
          + Ideal.ofBits .f32 0x358637BD#32))
    = ((lnR x j : ℝ) : EReal) := by
  simp only [lit_768, lit_eps, sum_real, div_real _ (by norm_num : (768 : ℝ) ≠ 0), ← EReal.coe_sub, ← EReal.coe_mul, ← EReal.coe_add]
  change Ideal.div ((x j - meanR x : ℝ) : EReal) (Ideal.sqrt ((varR x + epsR : ℝ) : EReal)) = _
  rw [sqrt_real (varR_pos x).le, div_real _ (Real.sqrt_pos.mpr (varR_pos x)).ne']
  rfl

/-- The product of a row with a matrix. -/
def dotR {n m : ℕ} (x : Fin n → ℝ) (W : Fin n → Fin m → ℝ) (j : Fin m) : ℝ := ∑ k, x k * W k j

/-- One head's attention for one query row: the values weighted by the exponentials of the scores over their sum. -/
def attnR {n : ℕ} (q : Fin 64 → ℝ) (K V : Fin n → Fin 64 → ℝ) (d : Fin 64) : ℝ :=
  (∑ i, Real.exp ((∑ e, q e * K i e) * (1 / 8)) * V i d) / ((∑ i, Real.exp ((∑ e, q e * K i e) * (1 / 8))) + tinyR)

/-- A softmax's denominator is positive. -/
theorem den_pos {n : ℕ} (f : Fin n → ℝ) : 0 < (∑ i, Real.exp (f i)) + tinyR :=
  add_pos_of_nonneg_of_pos (Finset.sum_nonneg fun i _ => (Real.exp_pos _).le) tinyR_pos

/-- One head as the kernel computes it, the queries scaled beforehand. -/
theorem attn_kernel {n : ℕ} (q : Fin 64 → ℝ) (K V : Fin n → Fin 64 → ℝ) (d : Fin 64) :
    (∑ i, Ideal.exp (min (∑ e, ((q e * (1 / 8) : ℝ) : EReal) * ((K i e : ℝ) : EReal)) ⊤) * ((V i d : ℝ) : EReal))
      * Ideal.div 1 ((∑ i, Ideal.exp (min (∑ e, ((q e * (1 / 8) : ℝ) : EReal) * ((K i e : ℝ) : EReal)) ⊤)) + Ideal.ofBits .f32 0x0DA24260#32)
    = ((attnR q K V d : ℝ) : EReal) := by
  have hs : ∀ i, (∑ e, q e * (1 / 8) * K i e) = (∑ e, q e * K i e) * (1 / 8) := fun i => by
    rw [Finset.sum_mul]; exact Finset.sum_congr rfl fun e _ => by ring
  simp only [← EReal.coe_mul, sum_real, min_eq_left le_top, Ideal.exp_coe, lit_tiny, ← EReal.coe_add, hs]
  rw [← EReal.coe_one, div_real _ (den_pos _).ne', ← EReal.coe_mul]
  unfold attnR; congr 1; ring

/-- One head as the reference computes it: each weight is divided, and the scores scaled. -/
theorem attn_reference {n : ℕ} (q : Fin 64 → ℝ) (K V : Fin n → Fin 64 → ℝ) (d : Fin 64) :
    (∑ i, Ideal.div (Ideal.exp ((∑ e, ((q e : ℝ) : EReal) * ((K i e : ℝ) : EReal)) * Ideal.ofBits .f32 0x3E000000#32))
        ((∑ i, Ideal.exp ((∑ e, ((q e : ℝ) : EReal) * ((K i e : ℝ) : EReal)) * Ideal.ofBits .f32 0x3E000000#32)) + Ideal.ofBits .f32 0x0DA24260#32)
      * ((V i d : ℝ) : EReal))
    = ((attnR q K V d : ℝ) : EReal) := by
  simp only [lit_eighth, ← EReal.coe_mul, sum_real, Ideal.exp_coe, lit_tiny, ← EReal.coe_add]
  simp only [div_real _ (den_pos _).ne', ← EReal.coe_mul, sum_real]
  unfold attnR; congr 1
  rw [Finset.sum_div]; exact Finset.sum_congr rfl fun i _ => by ring

/-- The head a column belongs to. -/
def hd (j : Fin 768) : Fin 12 := ⟨(j : ℕ) / 64, by omega⟩
/-- A column's place in its head. -/
def lo (j : Fin 768) : Fin 64 := ⟨(j : ℕ) % 64, by omega⟩
/-- The column of a head's place. -/
def hcol (h : Fin 12) (e : Fin 64) : Fin 768 := ⟨64 * (h : ℕ) + (e : ℕ), by omega⟩
/-- The column of a head's place among the joint projections: queries, keys, values. -/
def hcol3 (o : Fin 3) (h : Fin 12) (e : Fin 64) : Fin 2304 := ⟨768 * (o : ℕ) + (64 * (h : ℕ) + (e : ℕ)), by omega⟩

/-- The first attention's heads, from the rows and the joint projection. -/
def selfR (X : Fin 512 → Fin 768 → ℝ) (A : Fin 768 → Fin 2304 → ℝ) (r : Fin 512) (h : Fin 12) (d : Fin 64) : ℝ :=
  attnR (fun e => dotR (lnR (X r)) A (hcol3 0 h e)) (fun n e => dotR (lnR (X n)) A (hcol3 1 h e))
    (fun n e => dotR (lnR (X n)) A (hcol3 2 h e)) d

/-- The rows after the first attention. -/
def saR (X : Fin 512 → Fin 768 → ℝ) (A : Fin 768 → Fin 2304 → ℝ) (O : Fin 768 → Fin 768 → ℝ) (r : Fin 512) (l : Fin 768) : ℝ :=
  X r l + dotR (fun j => selfR X A r (hd j) (lo j)) O l

/-- The second attention's heads. -/
def crossR (X : Fin 512 → Fin 768 → ℝ) (Y : Fin 1024 → Fin 768 → ℝ) (WQ WK WV : Fin 768 → Fin 768 → ℝ) (r : Fin 512) (h : Fin 12) (d : Fin 64) : ℝ :=
  attnR (fun e => dotR (lnR (X r)) WQ (hcol h e)) (fun n e => dotR (lnR (Y n)) WK (hcol h e))
    (fun n e => dotR (lnR (Y n)) WV (hcol h e)) d

/-- The rows after the second attention. -/
def caR (X : Fin 512 → Fin 768 → ℝ) (Y : Fin 1024 → Fin 768 → ℝ) (WQ WK WV O : Fin 768 → Fin 768 → ℝ) (r : Fin 512) (l : Fin 768) : ℝ :=
  X r l + dotR (fun j => crossR X Y WQ WK WV r (hd j) (lo j)) O l

/-- The hidden layer, whose weights may be infinite. -/
def hidE (x : Fin 768 → ℝ) (W : Fin 768 → Fin 3072 → EReal) (j : Fin 3072) : EReal := ∑ k, ((lnR x k : ℝ) : EReal) * W k j

/-- The activation. -/
def actE (h : EReal) : EReal :=
  h * (((1 / 2 : ℝ) : EReal) * (1 + Ideal.tanh (((6693141 / 8388608 : ℝ) : EReal) * (h + ((12003091 / 268435456 : ℝ) : EReal) * (h * (h * h))))))

/-- The block's result at one entry. -/
def outE (x : Fin 768 → ℝ) (W : Fin 768 → Fin 3072 → EReal) (Z : Fin 3072 → Fin 768 → EReal) (l : Fin 768) : EReal :=
  ((x l : ℝ) : EReal) + ∑ j, actE (hidE x W j) * Z j l

/-- Scaling a weight by one eighth scales the product. -/
theorem dot_scaled {m : ℕ} (x : Fin 768 → ℝ) (W W' : Fin 768 → Fin m → ℝ) (j : Fin m) (h : ∀ k, W' k j = W k j * (1 / 8)) :
    dotR x W' j = dotR x W j * (1 / 8) := by
  unfold dotR; rw [Finset.sum_mul]; exact Finset.sum_congr rfl fun k _ => by rw [h k]; ring

end Cert.Val

end
-- ==== Proof.Value.Stages.lean ====
module

public import proofs.«01_k».proof.Proof.Ideal.Block
public import proofs.«01_k».proof.Proof.Value.Real

@[expose] public section

set_option maxRecDepth 16384

noncomputable section

namespace Cert.KernelIdeal.Val

open Cert.KernelIdeal Cert.KernelIdeal.Gen Cert.KernelIdeal.Hand Cert.Val
open Idealize.ShloMosaic Idealize.ShloMosaic.TcCoe

/-- The layer norm of 512 rows, as the kernel writes it. -/
def ln512 (x : FVec Ideal S512x768 .f32) : FVec Ideal S512x768 .bf16 :=
  let m : FVec Ideal S512x1 .f32 := divf (shapeCast S512x1 (multiReduction .add [1] S512 x 0x00000000#32 reduces_S512x768_S512 (.inl rfl) rfl) shapeCasts_S512_S512x1) (broadcast S512x1 (Scalar.ofBits .f32 0x44400000#32))
  let s : FVec Ideal S512x1 .f32 := divf (shapeCast S512x1 (multiReduction .add [1] S512 (mulf x x) 0x00000000#32 reduces_S512x768_S512 (.inl rfl) rfl) shapeCasts_S512_S512x1) (broadcast S512x1 (Scalar.ofBits .f32 0x44400000#32))
  truncf .bf16 (mulf (subf x (broadcastTo S512x768 m broadcasts_S512x1_S512x768))
    (broadcastTo S512x768 (rsqrt (addf (subf s (mulf m m)) (broadcast S512x1 (Scalar.ofBits .f32 0x358637BD#32)))) broadcasts_S512x1_S512x768)) bitsLt_bf16_f32

/-- The kernel's layer norm of 512 real rows. -/
theorem ln512_real (x : FVec Ideal S512x768 .f32) (X : Fin 512 → Fin 768 → ℝ) (hx : ∀ r l, x (ix2 r l) = ((X r l : ℝ) : EReal))
    (r : Fin 512) (l : Fin 768) : ln512 x (ix2 r l) = ((lnR (X r) l : ℝ) : EReal) := by
  pointwise [ln512, hx]
  exact ln_kernel (X r) l

/-- The layer norm of 1024 rows, as the kernel writes it. -/
def ln1024 (x : FVec Ideal S1024x768 .f32) : FVec Ideal S1024x768 .bf16 :=
  let m : FVec Ideal S1024x1 .f32 := divf (shapeCast S1024x1 (multiReduction .add [1] S1024 x 0x00000000#32 reduces_S1024x768_S1024 (.inl rfl) rfl) shapeCasts_S1024_S1024x1) (broadcast S1024x1 (Scalar.ofBits .f32 0x44400000#32))
  let s : FVec Ideal S1024x1 .f32 := divf (shapeCast S1024x1 (multiReduction .add [1] S1024 (mulf x x) 0x00000000#32 reduces_S1024x768_S1024 (.inl rfl) rfl) shapeCasts_S1024_S1024x1) (broadcast S1024x1 (Scalar.ofBits .f32 0x44400000#32))
  truncf .bf16 (mulf (subf x (broadcastTo S1024x768 m broadcasts_S1024x1_S1024x768))
    (broadcastTo S1024x768 (rsqrt (addf (subf s (mulf m m)) (broadcast S1024x1 (Scalar.ofBits .f32 0x358637BD#32)))) broadcasts_S1024x1_S1024x768)) bitsLt_bf16_f32

/-- The same of 1024 rows. -/
theorem ln1024_real (x : FVec Ideal S1024x768 .f32) (X : Fin 1024 → Fin 768 → ℝ) (hx : ∀ r l, x (ix2 r l) = ((X r l : ℝ) : EReal))
    (r : Fin 1024) (l : Fin 768) : ln1024 x (ix2 r l) = ((lnR (X r) l : ℝ) : EReal) := by
  pointwise [ln1024, hx]
  exact ln_kernel (X r) l

/-- One head over 512 keys, as the kernel writes it. -/
def headS (q : FVec Ideal S512x64 .bf16) (k v : FVec Ideal S512x64 .bf16) : FVec Ideal S512x64 .f32 :=
  let e : FVec Ideal S512x512 .bf16 := exp (minimumf (truncf .bf16 (matmul dot_S512x64_S512x64_S512x512_1_1_0_0_n_n none q k (constant S512x512 .f32 0x00000000#32)) bitsLt_bf16_f32) (broadcast S512x512 (Named.named κ "clip" 0x428C#16)))
  let o : FVec Ideal S512x128 .f32 := matmul dot_S512x512_S512x128_S512x128_1_0_0_1_n_n none e (concatenate S512x128 1 [⟨S512x64, v⟩, ⟨S512x64, k0_pay21 (F := Ideal)⟩] concatenates_S512x64_S512x64_S512x128_d1) (constant S512x128 .f32 0x00000000#32)
  mulf (extractStridedSlice S512x64 ![0, 0] o slices_S512x128_o0_0_S512x64)
    (broadcastTo S512x64 (divf (broadcast S512x1 (Scalar.ofBits .f32 0x3F800000#32)) (addf (extractStridedSlice S512x1 ![0, 64] o slices_S512x128_o0_64_S512x1) (broadcast S512x1 (Scalar.ofBits .f32 0x0DA24260#32)))) broadcasts_S512x1_S512x64)

/-- One head of the kernel's self-attention on real queries, keys and values. -/
theorem headS_real (q : FVec Ideal S512x64 .bf16) (k v : FVec Ideal S512x64 .bf16) (Q : Fin 512 → Fin 64 → ℝ) (K V : Fin 512 → Fin 64 → ℝ)
    (hq : ∀ r e, q (ix2 r e) = ((Q r e * (1 / 8) : ℝ) : EReal)) (hk : ∀ r e, k (ix2 r e) = ((K r e : ℝ) : EReal))
    (hv : ∀ r e, v (ix2 r e) = ((V r e : ℝ) : EReal)) (r : Fin 512) (d : Fin 64) :
    headS q k v (ix2 r d) = ((attnR (Q r) K V d : ℝ) : EReal) := by
  have hc : (Named.named (F := Ideal) κ "clip" (φ := .bf16) 0x428C#16) = (⊤ : EReal) := rfl
  pointwise [headS, k0_pay21, hq, hk, hv, hc]
  exact attn_kernel (Q r) K V d

/-- One head over 1024 keys, as the kernel writes it. -/
def headC (q : FVec Ideal S512x64 .bf16) (k v : FVec Ideal S1024x64 .bf16) : FVec Ideal S512x64 .f32 :=
  let e : FVec Ideal S512x1024 .bf16 := exp (minimumf (truncf .bf16 (matmul dot_S512x64_S1024x64_S512x1024_1_1_0_0_n_n none q k (constant S512x1024 .f32 0x00000000#32)) bitsLt_bf16_f32) (broadcast S512x1024 (Named.named κ "clip" 0x428C#16)))
  let o : FVec Ideal S512x128 .f32 := matmul dot_S512x1024_S1024x128_S512x128_1_0_0_1_n_n none e (concatenate S1024x128 1 [⟨S1024x64, v⟩, ⟨S1024x64, k0_pay22 (F := Ideal)⟩] concatenates_S1024x64_S1024x64_S1024x128_d1) (constant S512x128 .f32 0x00000000#32)
  mulf (extractStridedSlice S512x64 ![0, 0] o slices_S512x128_o0_0_S512x64)
    (broadcastTo S512x64 (divf (broadcast S512x1 (Scalar.ofBits .f32 0x3F800000#32)) (addf (extractStridedSlice S512x1 ![0, 64] o slices_S512x128_o0_64_S512x1) (broadcast S512x1 (Scalar.ofBits .f32 0x0DA24260#32)))) broadcasts_S512x1_S512x64)

/-- One head of its cross-attention. -/
theorem headC_real (q : FVec Ideal S512x64 .bf16) (k v : FVec Ideal S1024x64 .bf16) (Q : Fin 512 → Fin 64 → ℝ) (K V : Fin 1024 → Fin 64 → ℝ)
    (hq : ∀ r e, q (ix2 r e) = ((Q r e * (1 / 8) : ℝ) : EReal)) (hk : ∀ r e, k (ix2 r e) = ((K r e : ℝ) : EReal))
    (hv : ∀ r e, v (ix2 r e) = ((V r e : ℝ) : EReal)) (r : Fin 512) (d : Fin 64) :
    headC q k v (ix2 r d) = ((attnR (Q r) K V d : ℝ) : EReal) := by
  have hc : (Named.named (F := Ideal) κ "clip" (φ := .bf16) 0x428C#16) = (⊤ : EReal) := rfl
  pointwise [headC, k0_pay22, hq, hk, hv, hc]
  exact attn_kernel (Q r) K V d

/-- A product with a 768 by 768 matrix. -/
def mm512 (a : FVec Ideal S512x768 .bf16) (W : FVec Ideal S768x768 .bf16) : FVec Ideal S512x768 .f32 :=
  matmul dot_S512x768_S768x768_S512x768_1_0_0_1_n_n none a W (constant S512x768 .f32 0x00000000#32)
/-- A product of 1024 rows with a 768 by 768 matrix. -/
def mm1024 (a : FVec Ideal S1024x768 .bf16) (W : FVec Ideal S768x768 .bf16) : FVec Ideal S1024x768 .f32 :=
  matmul dot_S1024x768_S768x768_S1024x768_1_0_0_1_n_n none a W (constant S1024x768 .f32 0x00000000#32)

/-- The projections of the first attention. -/
theorem pay23_eq (x : Vec Ideal S1x512x768 .f32) (W0 : FVec Ideal S768x2304 .bf16) :
    k0_pay23 x W0 = truncf .bf16 (matmul dot_S512x768_S768x2304_S512x2304_1_0_0_1_n_n none (ln512 (k0_pay19 x)) W0 (constant S512x2304 .f32 0x00000000#32)) bitsLt_bf16_f32 := rfl

/-- The twelve heads of the first attention, beside each other. -/
def headsS (x : Vec Ideal S1x512x768 .f32) (W0 : FVec Ideal S768x2304 .bf16) : FVec Ideal S512x768 .f32 :=
  concatenate S512x768 1 [⟨S512x64, headS (extractStridedSlice S512x64 ![0, 0] (k0_pay23 x W0) slices_S512x2304_o0_0_S512x64) (extractStridedSlice S512x64 ![0, 768] (k0_pay23 x W0) slices_S512x2304_o0_768_S512x64) (extractStridedSlice S512x64 ![0, 1536] (k0_pay23 x W0) slices_S512x2304_o0_1536_S512x64)⟩, ⟨S512x64, headS (extractStridedSlice S512x64 ![0, 64] (k0_pay23 x W0) slices_S512x2304_o0_64_S512x64) (extractStridedSlice S512x64 ![0, 832] (k0_pay23 x W0) slices_S512x2304_o0_832_S512x64) (extractStridedSlice S512x64 ![0, 1600] (k0_pay23 x W0) slices_S512x2304_o0_1600_S512x64)⟩, ⟨S512x64, headS (extractStridedSlice S512x64 ![0, 128] (k0_pay23 x W0) slices_S512x2304_o0_128_S512x64) (extractStridedSlice S512x64 ![0, 896] (k0_pay23 x W0) slices_S512x2304_o0_896_S512x64) (extractStridedSlice S512x64 ![0, 1664] (k0_pay23 x W0) slices_S512x2304_o0_1664_S512x64)⟩, ⟨S512x64, headS (extractStridedSlice S512x64 ![0, 192] (k0_pay23 x W0) slices_S512x2304_o0_192_S512x64) (extractStridedSlice S512x64 ![0, 960] (k0_pay23 x W0) slices_S512x2304_o0_960_S512x64) (extractStridedSlice S512x64 ![0, 1728] (k0_pay23 x W0) slices_S512x2304_o0_1728_S512x64)⟩, ⟨S512x64, headS (extractStridedSlice S512x64 ![0, 256] (k0_pay23 x W0) slices_S512x2304_o0_256_S512x64) (extractStridedSlice S512x64 ![0, 1024] (k0_pay23 x W0) slices_S512x2304_o0_1024_S512x64) (extractStridedSlice S512x64 ![0, 1792] (k0_pay23 x W0) slices_S512x2304_o0_1792_S512x64)⟩, ⟨S512x64, headS (extractStridedSlice S512x64 ![0, 320] (k0_pay23 x W0) slices_S512x2304_o0_320_S512x64) (extractStridedSlice S512x64 ![0, 1088] (k0_pay23 x W0) slices_S512x2304_o0_1088_S512x64) (extractStridedSlice S512x64 ![0, 1856] (k0_pay23 x W0) slices_S512x2304_o0_1856_S512x64)⟩, ⟨S512x64, headS (extractStridedSlice S512x64 ![0, 384] (k0_pay23 x W0) slices_S512x2304_o0_384_S512x64) (extractStridedSlice S512x64 ![0, 1152] (k0_pay23 x W0) slices_S512x2304_o0_1152_S512x64) (extractStridedSlice S512x64 ![0, 1920] (k0_pay23 x W0) slices_S512x2304_o0_1920_S512x64)⟩, ⟨S512x64, headS (extractStridedSlice S512x64 ![0, 448] (k0_pay23 x W0) slices_S512x2304_o0_448_S512x64) (extractStridedSlice S512x64 ![0, 1216] (k0_pay23 x W0) slices_S512x2304_o0_1216_S512x64) (extractStridedSlice S512x64 ![0, 1984] (k0_pay23 x W0) slices_S512x2304_o0_1984_S512x64)⟩, ⟨S512x64, headS (extractStridedSlice S512x64 ![0, 512] (k0_pay23 x W0) slices_S512x2304_o0_512_S512x64) (extractStridedSlice S512x64 ![0, 1280] (k0_pay23 x W0) slices_S512x2304_o0_1280_S512x64) (extractStridedSlice S512x64 ![0, 2048] (k0_pay23 x W0) slices_S512x2304_o0_2048_S512x64)⟩, ⟨S512x64, headS (extractStridedSlice S512x64 ![0, 576] (k0_pay23 x W0) slices_S512x2304_o0_576_S512x64) (extractStridedSlice S512x64 ![0, 1344] (k0_pay23 x W0) slices_S512x2304_o0_1344_S512x64) (extractStridedSlice S512x64 ![0, 2112] (k0_pay23 x W0) slices_S512x2304_o0_2112_S512x64)⟩, ⟨S512x64, headS (extractStridedSlice S512x64 ![0, 640] (k0_pay23 x W0) slices_S512x2304_o0_640_S512x64) (extractStridedSlice S512x64 ![0, 1408] (k0_pay23 x W0) slices_S512x2304_o0_1408_S512x64) (extractStridedSlice S512x64 ![0, 2176] (k0_pay23 x W0) slices_S512x2304_o0_2176_S512x64)⟩, ⟨S512x64, headS (extractStridedSlice S512x64 ![0, 704] (k0_pay23 x W0) slices_S512x2304_o0_704_S512x64) (extractStridedSlice S512x64 ![0, 1472] (k0_pay23 x W0) slices_S512x2304_o0_1472_S512x64) (extractStridedSlice S512x64 ![0, 2240] (k0_pay23 x W0) slices_S512x2304_o0_2240_S512x64)⟩] concatenates_S512x64_S512x64_S512x64_S512x64_S512x64_S512x64_S512x64_S512x64_S512x64_S512x64_S512x64_S512x64_S512x768_d1

/-- The stage up to the self-attention, in terms of its heads. -/
theorem saOf_eq (x : Vec Ideal S1x512x768 .f32) (W0 : FVec Ideal S768x2304 .bf16) (W1 : FVec Ideal S768x768 .bf16) :
    saOf x W0 W1 = addf (k0_pay19 x) (mm512 (truncf .bf16 (headsS x W0) bitsLt_bf16_f32) W1) := rfl

/-- The twelve heads of the second attention, beside each other. -/
def headsC (q : FVec Ideal S512x768 .bf16) (k v : FVec Ideal S1024x768 .bf16) : FVec Ideal S512x768 .f32 :=
  concatenate S512x768 1 [⟨S512x64, headC (extractStridedSlice S512x64 ![0, 0] q slices_S512x768_o0_0_S512x64) (extractStridedSlice S1024x64 ![0, 0] k slices_S1024x768_o0_0_S1024x64) (extractStridedSlice S1024x64 ![0, 0] v slices_S1024x768_o0_0_S1024x64)⟩, ⟨S512x64, headC (extractStridedSlice S512x64 ![0, 64] q slices_S512x768_o0_64_S512x64) (extractStridedSlice S1024x64 ![0, 64] k slices_S1024x768_o0_64_S1024x64) (extractStridedSlice S1024x64 ![0, 64] v slices_S1024x768_o0_64_S1024x64)⟩, ⟨S512x64, headC (extractStridedSlice S512x64 ![0, 128] q slices_S512x768_o0_128_S512x64) (extractStridedSlice S1024x64 ![0, 128] k slices_S1024x768_o0_128_S1024x64) (extractStridedSlice S1024x64 ![0, 128] v slices_S1024x768_o0_128_S1024x64)⟩, ⟨S512x64, headC (extractStridedSlice S512x64 ![0, 192] q slices_S512x768_o0_192_S512x64) (extractStridedSlice S1024x64 ![0, 192] k slices_S1024x768_o0_192_S1024x64) (extractStridedSlice S1024x64 ![0, 192] v slices_S1024x768_o0_192_S1024x64)⟩, ⟨S512x64, headC (extractStridedSlice S512x64 ![0, 256] q slices_S512x768_o0_256_S512x64) (extractStridedSlice S1024x64 ![0, 256] k slices_S1024x768_o0_256_S1024x64) (extractStridedSlice S1024x64 ![0, 256] v slices_S1024x768_o0_256_S1024x64)⟩, ⟨S512x64, headC (extractStridedSlice S512x64 ![0, 320] q slices_S512x768_o0_320_S512x64) (extractStridedSlice S1024x64 ![0, 320] k slices_S1024x768_o0_320_S1024x64) (extractStridedSlice S1024x64 ![0, 320] v slices_S1024x768_o0_320_S1024x64)⟩, ⟨S512x64, headC (extractStridedSlice S512x64 ![0, 384] q slices_S512x768_o0_384_S512x64) (extractStridedSlice S1024x64 ![0, 384] k slices_S1024x768_o0_384_S1024x64) (extractStridedSlice S1024x64 ![0, 384] v slices_S1024x768_o0_384_S1024x64)⟩, ⟨S512x64, headC (extractStridedSlice S512x64 ![0, 448] q slices_S512x768_o0_448_S512x64) (extractStridedSlice S1024x64 ![0, 448] k slices_S1024x768_o0_448_S1024x64) (extractStridedSlice S1024x64 ![0, 448] v slices_S1024x768_o0_448_S1024x64)⟩, ⟨S512x64, headC (extractStridedSlice S512x64 ![0, 512] q slices_S512x768_o0_512_S512x64) (extractStridedSlice S1024x64 ![0, 512] k slices_S1024x768_o0_512_S1024x64) (extractStridedSlice S1024x64 ![0, 512] v slices_S1024x768_o0_512_S1024x64)⟩, ⟨S512x64, headC (extractStridedSlice S512x64 ![0, 576] q slices_S512x768_o0_576_S512x64) (extractStridedSlice S1024x64 ![0, 576] k slices_S1024x768_o0_576_S1024x64) (extractStridedSlice S1024x64 ![0, 576] v slices_S1024x768_o0_576_S1024x64)⟩, ⟨S512x64, headC (extractStridedSlice S512x64 ![0, 640] q slices_S512x768_o0_640_S512x64) (extractStridedSlice S1024x64 ![0, 640] k slices_S1024x768_o0_640_S1024x64) (extractStridedSlice S1024x64 ![0, 640] v slices_S1024x768_o0_640_S1024x64)⟩, ⟨S512x64, headC (extractStridedSlice S512x64 ![0, 704] q slices_S512x768_o0_704_S512x64) (extractStridedSlice S1024x64 ![0, 704] k slices_S1024x768_o0_704_S1024x64) (extractStridedSlice S1024x64 ![0, 704] v slices_S1024x768_o0_704_S1024x64)⟩] concatenates_S512x64_S512x64_S512x64_S512x64_S512x64_S512x64_S512x64_S512x64_S512x64_S512x64_S512x64_S512x64_S512x768_d1

/-- The stage of the cross-attention, in terms of its heads. -/
theorem caOf_eq (r : FVec Ideal S512x768 .f32) (y : Vec Ideal S1x1024x768 .f32) (W2 W3 W4 W5 : FVec Ideal S768x768 .bf16) :
    caOf r y W2 W3 W4 W5 = addf r (mm512 (truncf .bf16 (headsC (truncf .bf16 (mm512 (ln512 r) W2) bitsLt_bf16_f32)
      (truncf .bf16 (mm1024 (ln1024 (k0_pay20 y)) W3) bitsLt_bf16_f32) (truncf .bf16 (mm1024 (ln1024 (k0_pay20 y)) W4) bitsLt_bf16_f32)) bitsLt_bf16_f32) W5) := rfl

/-- The MLP's first product, in terms of the layer norm. -/
theorem hidA_eq (r : FVec Ideal S512x768 .f32) (y : Vec Ideal S1x1024x768 .f32) (W2 W3 W4 W5 : FVec Ideal S768x768 .bf16) (W6 : FVec Ideal S768x3072 .bf16) :
    hidA r y W2 W3 W4 W5 W6 = truncf .bf16 (matmul dot_S512x768_S768x3072_S512x3072_1_0_0_1_n_n none (ln512 (caOf r y W2 W3 W4 W5)) W6 (constant S512x3072 .f32 0x00000000#32)) bitsLt_bf16_f32 := rfl

/-- The square of the MLP's first product, which the gelu's cube is made of. -/
theorem hidB_eq (r : FVec Ideal S512x768 .f32) (y : Vec Ideal S1x1024x768 .f32) (W2 W3 W4 W5 : FVec Ideal S768x768 .bf16) (W6 : FVec Ideal S768x3072 .bf16) :
    hidB r y W2 W3 W4 W5 W6 = mulf (hidA r y W2 W3 W4 W5 W6) (hidA r y W2 W3 W4 W5 W6) := rfl

/-- The first attention's joint projection with the scale folded in. -/
def foldA (A : Fin 768 → Fin 2304 → ℝ) (k : Fin 768) (j : Fin 2304) : ℝ := if (j : ℕ) < 768 then A k j * (1 / 8) else A k j

/-- The kernel's fused product, the query columns scaled by one eighth. -/
theorem pay23_real (x : Vec Ideal S1x512x768 .f32) (W0 : FVec Ideal S768x2304 .bf16) (X : Fin 512 → Fin 768 → ℝ) (A : Fin 768 → Fin 2304 → ℝ)
    (hx : ∀ r l, k0_pay19 x (ix2 r l) = ((X r l : ℝ) : EReal)) (hW : ∀ k j, W0 (ix2 k j) = ((A k j : ℝ) : EReal))
    (r : Fin 512) (j : Fin 2304) : k0_pay23 x W0 (ix2 r j) = ((dotR (lnR (X r)) A j : ℝ) : EReal) := by
  rw [pay23_eq]
  have hl := ln512_real (k0_pay19 x) X hx
  pointwise [hl, hW]
  simp only [← EReal.coe_mul]
  exact sum_real _

/-- Its query columns. -/
theorem pay23_q (x : Vec Ideal S1x512x768 .f32) (W0 : FVec Ideal S768x2304 .bf16) (X : Fin 512 → Fin 768 → ℝ) (A : Fin 768 → Fin 2304 → ℝ)
    (hx : ∀ r l, k0_pay19 x (ix2 r l) = ((X r l : ℝ) : EReal)) (hW : ∀ k j, W0 (ix2 k j) = ((foldA A k j : ℝ) : EReal))
    (r : Fin 512) (j : Fin 2304) (h : Fin 12) (e : Fin 64) (hj : (j : ℕ) = 64 * (h : ℕ) + (e : ℕ)) :
    k0_pay23 x W0 (ix2 r j) = ((dotR (lnR (X r)) A (hcol3 0 h e) * (1 / 8) : ℝ) : EReal) := by
  obtain rfl : j = hcol3 0 h e := Fin.ext (by simp [hcol3, hj])
  rw [pay23_real x W0 X _ hx hW, dot_scaled _ A _ _ fun k => ?_]
  unfold foldA
  rw [if_pos (by omega)]

/-- Its key and value columns. -/
theorem pay23_kv (x : Vec Ideal S1x512x768 .f32) (W0 : FVec Ideal S768x2304 .bf16) (X : Fin 512 → Fin 768 → ℝ) (A : Fin 768 → Fin 2304 → ℝ)
    (hx : ∀ r l, k0_pay19 x (ix2 r l) = ((X r l : ℝ) : EReal)) (hW : ∀ k j, W0 (ix2 k j) = ((foldA A k j : ℝ) : EReal))
    (r : Fin 512) (j : Fin 2304) (o : Fin 3) (ho : 1 ≤ (o : ℕ)) (h : Fin 12) (e : Fin 64) (hj : (j : ℕ) = 768 * (o : ℕ) + (64 * (h : ℕ) + (e : ℕ))) :
    k0_pay23 x W0 (ix2 r j) = ((dotR (lnR (X r)) A (hcol3 o h e) : ℝ) : EReal) := by
  obtain rfl : j = hcol3 o h e := Fin.ext (by simp [hcol3, hj])
  rw [pay23_real x W0 X _ hx hW]
  unfold dotR
  congr 1
  refine Finset.sum_congr rfl fun k _ => ?_
  unfold foldA
  rw [if_neg (by omega)]

/-- The product of 512 real rows with a square real weight. -/
theorem mm512_real (a : FVec Ideal S512x768 .bf16) (W : FVec Ideal S768x768 .bf16) (A : Fin 512 → Fin 768 → ℝ) (B : Fin 768 → Fin 768 → ℝ)
    (ha : ∀ r l, a (ix2 r l) = ((A r l : ℝ) : EReal)) (hW : ∀ k j, W (ix2 k j) = ((B k j : ℝ) : EReal)) (r : Fin 512) (l : Fin 768) :
    mm512 a W (ix2 r l) = ((dotR (A r) B l : ℝ) : EReal) := by
  pointwise [mm512, ha, hW]
  simp only [← EReal.coe_mul]
  exact sum_real _

/-- The same of 1024 rows. -/
theorem mm1024_real (a : FVec Ideal S1024x768 .bf16) (W : FVec Ideal S768x768 .bf16) (A : Fin 1024 → Fin 768 → ℝ) (B : Fin 768 → Fin 768 → ℝ)
    (ha : ∀ r l, a (ix2 r l) = ((A r l : ℝ) : EReal)) (hW : ∀ k j, W (ix2 k j) = ((B k j : ℝ) : EReal)) (r : Fin 1024) (l : Fin 768) :
    mm1024 a W (ix2 r l) = ((dotR (A r) B l : ℝ) : EReal) := by
  pointwise [mm1024, ha, hW]
  simp only [← EReal.coe_mul]
  exact sum_real _

set_option maxHeartbeats 1600000 in
/-- The heads of the self-attention laid side by side. -/
theorem headsS_real (x : Vec Ideal S1x512x768 .f32) (W0 : FVec Ideal S768x2304 .bf16) (X : Fin 512 → Fin 768 → ℝ) (A : Fin 768 → Fin 2304 → ℝ)
    (hx : ∀ r l, k0_pay19 x (ix2 r l) = ((X r l : ℝ) : EReal)) (hW : ∀ k j, W0 (ix2 k j) = ((foldA A k j : ℝ) : EReal)) (r : Fin 512) (j : Fin 768) : headsS x W0 (ix2 r j) = ((selfR X A r (hd j) (lo j) : ℝ) : EReal) := by
  pointwise [headsS]
  have hjl := j.isLt
  rcases (by omega : (j : ℕ) / 64 = 0 ∨ (j : ℕ) / 64 = 1 ∨ (j : ℕ) / 64 = 2 ∨ (j : ℕ) / 64 = 3 ∨ (j : ℕ) / 64 = 4 ∨ (j : ℕ) / 64 = 5 ∨ (j : ℕ) / 64 = 6 ∨ (j : ℕ) / 64 = 7 ∨ (j : ℕ) / 64 = 8 ∨ (j : ℕ) / 64 = 9 ∨ (j : ℕ) / 64 = 10 ∨ (j : ℕ) / 64 = 11) with hc | hc | hc | hc | hc | hc | hc | hc | hc | hc | hc | hc
  · rw [dif_pos (by omega)]
    have e1 : hd j = 0 := Fin.ext hc
    have e2 : lo j = ⟨(j : ℕ) - 0, by omega⟩ := Fin.ext (by simp only [lo]; omega)
    rw [e1, e2]
    refine (headS_real _ _ _ (fun r e => dotR (lnR (X r)) A (hcol3 0 0 e)) (fun r e => dotR (lnR (X r)) A (hcol3 1 0 e)) (fun r e => dotR (lnR (X r)) A (hcol3 2 0 e)) ?_ ?_ ?_ _ _).trans ?_
    · intro r e; pointwise; exact pay23_q x W0 X A hx hW r _ 0 e (by simp)
    · intro r e; pointwise; exact pay23_kv x W0 X A hx hW r _ 1 (by decide) 0 e (by simp <;> omega)
    · intro r e; pointwise; exact pay23_kv x W0 X A hx hW r _ 2 (by decide) 0 e (by simp <;> omega)
    · rfl
  · rw [dif_neg (by omega), dif_pos (by omega)]
    have e1 : hd j = 1 := Fin.ext hc
    have e2 : lo j = ⟨(j : ℕ) - 64, by omega⟩ := Fin.ext (by simp only [lo]; omega)
    rw [e1, e2]
    refine (headS_real _ _ _ (fun r e => dotR (lnR (X r)) A (hcol3 0 1 e)) (fun r e => dotR (lnR (X r)) A (hcol3 1 1 e)) (fun r e => dotR (lnR (X r)) A (hcol3 2 1 e)) ?_ ?_ ?_ _ _).trans ?_
    · intro r e; pointwise; exact pay23_q x W0 X A hx hW r _ 1 e (by simp)
    · intro r e; pointwise; exact pay23_kv x W0 X A hx hW r _ 1 (by decide) 1 e (by simp <;> omega)
    · intro r e; pointwise; exact pay23_kv x W0 X A hx hW r _ 2 (by decide) 1 e (by simp <;> omega)
    · rfl
  · rw [dif_neg (by omega), dif_neg (by omega), dif_pos (by omega)]
    have e1 : hd j = 2 := Fin.ext hc
    have e2 : lo j = ⟨(j : ℕ) - 128, by omega⟩ := Fin.ext (by simp only [lo]; omega)
    rw [e1, e2]
    refine (headS_real _ _ _ (fun r e => dotR (lnR (X r)) A (hcol3 0 2 e)) (fun r e => dotR (lnR (X r)) A (hcol3 1 2 e)) (fun r e => dotR (lnR (X r)) A (hcol3 2 2 e)) ?_ ?_ ?_ _ _).trans ?_
    · intro r e; pointwise; exact pay23_q x W0 X A hx hW r _ 2 e (by simp)
    · intro r e; pointwise; exact pay23_kv x W0 X A hx hW r _ 1 (by decide) 2 e (by simp <;> omega)
    · intro r e; pointwise; exact pay23_kv x W0 X A hx hW r _ 2 (by decide) 2 e (by simp <;> omega)
    · rfl
  · rw [dif_neg (by omega), dif_neg (by omega), dif_neg (by omega), dif_pos (by omega)]
    have e1 : hd j = 3 := Fin.ext hc
    have e2 : lo j = ⟨(j : ℕ) - 192, by omega⟩ := Fin.ext (by simp only [lo]; omega)
    rw [e1, e2]
    refine (headS_real _ _ _ (fun r e => dotR (lnR (X r)) A (hcol3 0 3 e)) (fun r e => dotR (lnR (X r)) A (hcol3 1 3 e)) (fun r e => dotR (lnR (X r)) A (hcol3 2 3 e)) ?_ ?_ ?_ _ _).trans ?_
    · intro r e; pointwise; exact pay23_q x W0 X A hx hW r _ 3 e (by simp)
    · intro r e; pointwise; exact pay23_kv x W0 X A hx hW r _ 1 (by decide) 3 e (by simp <;> omega)
    · intro r e; pointwise; exact pay23_kv x W0 X A hx hW r _ 2 (by decide) 3 e (by simp <;> omega)
    · rfl
  · rw [dif_neg (by omega), dif_neg (by omega), dif_neg (by omega), dif_neg (by omega), dif_pos (by omega)]
    have e1 : hd j = 4 := Fin.ext hc
    have e2 : lo j = ⟨(j : ℕ) - 256, by omega⟩ := Fin.ext (by simp only [lo]; omega)
    rw [e1, e2]
    refine (headS_real _ _ _ (fun r e => dotR (lnR (X r)) A (hcol3 0 4 e)) (fun r e => dotR (lnR (X r)) A (hcol3 1 4 e)) (fun r e => dotR (lnR (X r)) A (hcol3 2 4 e)) ?_ ?_ ?_ _ _).trans ?_
    · intro r e; pointwise; exact pay23_q x W0 X A hx hW r _ 4 e (by simp)
    · intro r e; pointwise; exact pay23_kv x W0 X A hx hW r _ 1 (by decide) 4 e (by simp <;> omega)
    · intro r e; pointwise; exact pay23_kv x W0 X A hx hW r _ 2 (by decide) 4 e (by simp <;> omega)
    · rfl
  · rw [dif_neg (by omega), dif_neg (by omega), dif_neg (by omega), dif_neg (by omega), dif_neg (by omega), dif_pos (by omega)]
    have e1 : hd j = 5 := Fin.ext hc
    have e2 : lo j = ⟨(j : ℕ) - 320, by omega⟩ := Fin.ext (by simp only [lo]; omega)
    rw [e1, e2]
    refine (headS_real _ _ _ (fun r e => dotR (lnR (X r)) A (hcol3 0 5 e)) (fun r e => dotR (lnR (X r)) A (hcol3 1 5 e)) (fun r e => dotR (lnR (X r)) A (hcol3 2 5 e)) ?_ ?_ ?_ _ _).trans ?_
    · intro r e; pointwise; exact pay23_q x W0 X A hx hW r _ 5 e (by simp)
    · intro r e; pointwise; exact pay23_kv x W0 X A hx hW r _ 1 (by decide) 5 e (by simp <;> omega)
    · intro r e; pointwise; exact pay23_kv x W0 X A hx hW r _ 2 (by decide) 5 e (by simp <;> omega)
    · rfl
  · rw [dif_neg (by omega), dif_neg (by omega), dif_neg (by omega), dif_neg (by omega), dif_neg (by omega), dif_neg (by omega), dif_pos (by omega)]
    have e1 : hd j = 6 := Fin.ext hc
    have e2 : lo j = ⟨(j : ℕ) - 384, by omega⟩ := Fin.ext (by simp only [lo]; omega)
    rw [e1, e2]
    refine (headS_real _ _ _ (fun r e => dotR (lnR (X r)) A (hcol3 0 6 e)) (fun r e => dotR (lnR (X r)) A (hcol3 1 6 e)) (fun r e => dotR (lnR (X r)) A (hcol3 2 6 e)) ?_ ?_ ?_ _ _).trans ?_
    · intro r e; pointwise; exact pay23_q x W0 X A hx hW r _ 6 e (by simp)
    · intro r e; pointwise; exact pay23_kv x W0 X A hx hW r _ 1 (by decide) 6 e (by simp <;> omega)
    · intro r e; pointwise; exact pay23_kv x W0 X A hx hW r _ 2 (by decide) 6 e (by simp <;> omega)
    · rfl
  · rw [dif_neg (by omega), dif_neg (by omega), dif_neg (by omega), dif_neg (by omega), dif_neg (by omega), dif_neg (by omega), dif_neg (by omega), dif_pos (by omega)]
    have e1 : hd j = 7 := Fin.ext hc
    have e2 : lo j = ⟨(j : ℕ) - 448, by omega⟩ := Fin.ext (by simp only [lo]; omega)
    rw [e1, e2]
    refine (headS_real _ _ _ (fun r e => dotR (lnR (X r)) A (hcol3 0 7 e)) (fun r e => dotR (lnR (X r)) A (hcol3 1 7 e)) (fun r e => dotR (lnR (X r)) A (hcol3 2 7 e)) ?_ ?_ ?_ _ _).trans ?_
    · intro r e; pointwise; exact pay23_q x W0 X A hx hW r _ 7 e (by simp)
    · intro r e; pointwise; exact pay23_kv x W0 X A hx hW r _ 1 (by decide) 7 e (by simp <;> omega)
    · intro r e; pointwise; exact pay23_kv x W0 X A hx hW r _ 2 (by decide) 7 e (by simp <;> omega)
    · rfl
  · rw [dif_neg (by omega), dif_neg (by omega), dif_neg (by omega), dif_neg (by omega), dif_neg (by omega), dif_neg (by omega), dif_neg (by omega), dif_neg (by omega), dif_pos (by omega)]
    have e1 : hd j = 8 := Fin.ext hc
    have e2 : lo j = ⟨(j : ℕ) - 512, by omega⟩ := Fin.ext (by simp only [lo]; omega)
    rw [e1, e2]
    refine (headS_real _ _ _ (fun r e => dotR (lnR (X r)) A (hcol3 0 8 e)) (fun r e => dotR (lnR (X r)) A (hcol3 1 8 e)) (fun r e => dotR (lnR (X r)) A (hcol3 2 8 e)) ?_ ?_ ?_ _ _).trans ?_
    · intro r e; pointwise; exact pay23_q x W0 X A hx hW r _ 8 e (by simp)
    · intro r e; pointwise; exact pay23_kv x W0 X A hx hW r _ 1 (by decide) 8 e (by simp <;> omega)
    · intro r e; pointwise; exact pay23_kv x W0 X A hx hW r _ 2 (by decide) 8 e (by simp <;> omega)
    · rfl
  · rw [dif_neg (by omega), dif_neg (by omega), dif_neg (by omega), dif_neg (by omega), dif_neg (by omega), dif_neg (by omega), dif_neg (by omega), dif_neg (by omega), dif_neg (by omega), dif_pos (by omega)]
    have e1 : hd j = 9 := Fin.ext hc
    have e2 : lo j = ⟨(j : ℕ) - 576, by omega⟩ := Fin.ext (by simp only [lo]; omega)
    rw [e1, e2]
    refine (headS_real _ _ _ (fun r e => dotR (lnR (X r)) A (hcol3 0 9 e)) (fun r e => dotR (lnR (X r)) A (hcol3 1 9 e)) (fun r e => dotR (lnR (X r)) A (hcol3 2 9 e)) ?_ ?_ ?_ _ _).trans ?_
    · intro r e; pointwise; exact pay23_q x W0 X A hx hW r _ 9 e (by simp)
    · intro r e; pointwise; exact pay23_kv x W0 X A hx hW r _ 1 (by decide) 9 e (by simp <;> omega)
    · intro r e; pointwise; exact pay23_kv x W0 X A hx hW r _ 2 (by decide) 9 e (by simp <;> omega)
    · rfl
  · rw [dif_neg (by omega), dif_neg (by omega), dif_neg (by omega), dif_neg (by omega), dif_neg (by omega), dif_neg (by omega), dif_neg (by omega), dif_neg (by omega), dif_neg (by omega), dif_neg (by omega), dif_pos (by omega)]
    have e1 : hd j = 10 := Fin.ext hc
    have e2 : lo j = ⟨(j : ℕ) - 640, by omega⟩ := Fin.ext (by simp only [lo]; omega)
    rw [e1, e2]
    refine (headS_real _ _ _ (fun r e => dotR (lnR (X r)) A (hcol3 0 10 e)) (fun r e => dotR (lnR (X r)) A (hcol3 1 10 e)) (fun r e => dotR (lnR (X r)) A (hcol3 2 10 e)) ?_ ?_ ?_ _ _).trans ?_
    · intro r e; pointwise; exact pay23_q x W0 X A hx hW r _ 10 e (by simp)
    · intro r e; pointwise; exact pay23_kv x W0 X A hx hW r _ 1 (by decide) 10 e (by simp <;> omega)
    · intro r e; pointwise; exact pay23_kv x W0 X A hx hW r _ 2 (by decide) 10 e (by simp <;> omega)
    · rfl
  · rw [dif_neg (by omega), dif_neg (by omega), dif_neg (by omega), dif_neg (by omega), dif_neg (by omega), dif_neg (by omega), dif_neg (by omega), dif_neg (by omega), dif_neg (by omega), dif_neg (by omega), dif_neg (by omega)]
    have e1 : hd j = 11 := Fin.ext hc
    have e2 : lo j = ⟨(j : ℕ) - 704, by omega⟩ := Fin.ext (by simp only [lo]; omega)
    rw [e1, e2]
    refine (headS_real _ _ _ (fun r e => dotR (lnR (X r)) A (hcol3 0 11 e)) (fun r e => dotR (lnR (X r)) A (hcol3 1 11 e)) (fun r e => dotR (lnR (X r)) A (hcol3 2 11 e)) ?_ ?_ ?_ _ _).trans ?_
    · intro r e; pointwise; exact pay23_q x W0 X A hx hW r _ 11 e (by simp)
    · intro r e; pointwise; exact pay23_kv x W0 X A hx hW r _ 1 (by decide) 11 e (by simp <;> omega)
    · intro r e; pointwise; exact pay23_kv x W0 X A hx hW r _ 2 (by decide) 11 e (by simp <;> omega)
    · rfl

set_option maxHeartbeats 1600000 in
/-- The heads of the cross-attention laid side by side. -/
theorem headsC_real (q : FVec Ideal S512x768 .bf16) (k v : FVec Ideal S1024x768 .bf16) (Q : Fin 512 → Fin 768 → ℝ) (K V : Fin 1024 → Fin 768 → ℝ)
    (hq : ∀ r l, q (ix2 r l) = ((Q r l * (1 / 8) : ℝ) : EReal)) (hk : ∀ r l, k (ix2 r l) = ((K r l : ℝ) : EReal)) (hv : ∀ r l, v (ix2 r l) = ((V r l : ℝ) : EReal)) (r : Fin 512) (j : Fin 768) : headsC q k v (ix2 r j) = ((attnR (fun e => Q r (hcol (hd j) e)) (fun n e => K n (hcol (hd j) e)) (fun n e => V n (hcol (hd j) e)) (lo j) : ℝ) : EReal) := by
  pointwise [headsC]
  have hjl := j.isLt
  rcases (by omega : (j : ℕ) / 64 = 0 ∨ (j : ℕ) / 64 = 1 ∨ (j : ℕ) / 64 = 2 ∨ (j : ℕ) / 64 = 3 ∨ (j : ℕ) / 64 = 4 ∨ (j : ℕ) / 64 = 5 ∨ (j : ℕ) / 64 = 6 ∨ (j : ℕ) / 64 = 7 ∨ (j : ℕ) / 64 = 8 ∨ (j : ℕ) / 64 = 9 ∨ (j : ℕ) / 64 = 10 ∨ (j : ℕ) / 64 = 11) with hc | hc | hc | hc | hc | hc | hc | hc | hc | hc | hc | hc
  · rw [dif_pos (by omega)]
    have e1 : hd j = 0 := Fin.ext hc
    have e2 : lo j = ⟨(j : ℕ) - 0, by omega⟩ := Fin.ext (by simp only [lo]; omega)
    rw [e1, e2]
    refine (headC_real _ _ _ (fun r e => Q r (hcol 0 e)) (fun r e => K r (hcol 0 e)) (fun r e => V r (hcol 0 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl
  · rw [dif_neg (by omega), dif_pos (by omega)]
    have e1 : hd j = 1 := Fin.ext hc
    have e2 : lo j = ⟨(j : ℕ) - 64, by omega⟩ := Fin.ext (by simp only [lo]; omega)
    rw [e1, e2]
    refine (headC_real _ _ _ (fun r e => Q r (hcol 1 e)) (fun r e => K r (hcol 1 e)) (fun r e => V r (hcol 1 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl
  · rw [dif_neg (by omega), dif_neg (by omega), dif_pos (by omega)]
    have e1 : hd j = 2 := Fin.ext hc
    have e2 : lo j = ⟨(j : ℕ) - 128, by omega⟩ := Fin.ext (by simp only [lo]; omega)
    rw [e1, e2]
    refine (headC_real _ _ _ (fun r e => Q r (hcol 2 e)) (fun r e => K r (hcol 2 e)) (fun r e => V r (hcol 2 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl
  · rw [dif_neg (by omega), dif_neg (by omega), dif_neg (by omega), dif_pos (by omega)]
    have e1 : hd j = 3 := Fin.ext hc
    have e2 : lo j = ⟨(j : ℕ) - 192, by omega⟩ := Fin.ext (by simp only [lo]; omega)
    rw [e1, e2]
    refine (headC_real _ _ _ (fun r e => Q r (hcol 3 e)) (fun r e => K r (hcol 3 e)) (fun r e => V r (hcol 3 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl
  · rw [dif_neg (by omega), dif_neg (by omega), dif_neg (by omega), dif_neg (by omega), dif_pos (by omega)]
    have e1 : hd j = 4 := Fin.ext hc
    have e2 : lo j = ⟨(j : ℕ) - 256, by omega⟩ := Fin.ext (by simp only [lo]; omega)
    rw [e1, e2]
    refine (headC_real _ _ _ (fun r e => Q r (hcol 4 e)) (fun r e => K r (hcol 4 e)) (fun r e => V r (hcol 4 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl
  · rw [dif_neg (by omega), dif_neg (by omega), dif_neg (by omega), dif_neg (by omega), dif_neg (by omega), dif_pos (by omega)]
    have e1 : hd j = 5 := Fin.ext hc
    have e2 : lo j = ⟨(j : ℕ) - 320, by omega⟩ := Fin.ext (by simp only [lo]; omega)
    rw [e1, e2]
    refine (headC_real _ _ _ (fun r e => Q r (hcol 5 e)) (fun r e => K r (hcol 5 e)) (fun r e => V r (hcol 5 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl
  · rw [dif_neg (by omega), dif_neg (by omega), dif_neg (by omega), dif_neg (by omega), dif_neg (by omega), dif_neg (by omega), dif_pos (by omega)]
    have e1 : hd j = 6 := Fin.ext hc
    have e2 : lo j = ⟨(j : ℕ) - 384, by omega⟩ := Fin.ext (by simp only [lo]; omega)
    rw [e1, e2]
    refine (headC_real _ _ _ (fun r e => Q r (hcol 6 e)) (fun r e => K r (hcol 6 e)) (fun r e => V r (hcol 6 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl
  · rw [dif_neg (by omega), dif_neg (by omega), dif_neg (by omega), dif_neg (by omega), dif_neg (by omega), dif_neg (by omega), dif_neg (by omega), dif_pos (by omega)]
    have e1 : hd j = 7 := Fin.ext hc
    have e2 : lo j = ⟨(j : ℕ) - 448, by omega⟩ := Fin.ext (by simp only [lo]; omega)
    rw [e1, e2]
    refine (headC_real _ _ _ (fun r e => Q r (hcol 7 e)) (fun r e => K r (hcol 7 e)) (fun r e => V r (hcol 7 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl
  · rw [dif_neg (by omega), dif_neg (by omega), dif_neg (by omega), dif_neg (by omega), dif_neg (by omega), dif_neg (by omega), dif_neg (by omega), dif_neg (by omega), dif_pos (by omega)]
    have e1 : hd j = 8 := Fin.ext hc
    have e2 : lo j = ⟨(j : ℕ) - 512, by omega⟩ := Fin.ext (by simp only [lo]; omega)
    rw [e1, e2]
    refine (headC_real _ _ _ (fun r e => Q r (hcol 8 e)) (fun r e => K r (hcol 8 e)) (fun r e => V r (hcol 8 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl
  · rw [dif_neg (by omega), dif_neg (by omega), dif_neg (by omega), dif_neg (by omega), dif_neg (by omega), dif_neg (by omega), dif_neg (by omega), dif_neg (by omega), dif_neg (by omega), dif_pos (by omega)]
    have e1 : hd j = 9 := Fin.ext hc
    have e2 : lo j = ⟨(j : ℕ) - 576, by omega⟩ := Fin.ext (by simp only [lo]; omega)
    rw [e1, e2]
    refine (headC_real _ _ _ (fun r e => Q r (hcol 9 e)) (fun r e => K r (hcol 9 e)) (fun r e => V r (hcol 9 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl
  · rw [dif_neg (by omega), dif_neg (by omega), dif_neg (by omega), dif_neg (by omega), dif_neg (by omega), dif_neg (by omega), dif_neg (by omega), dif_neg (by omega), dif_neg (by omega), dif_neg (by omega), dif_pos (by omega)]
    have e1 : hd j = 10 := Fin.ext hc
    have e2 : lo j = ⟨(j : ℕ) - 640, by omega⟩ := Fin.ext (by simp only [lo]; omega)
    rw [e1, e2]
    refine (headC_real _ _ _ (fun r e => Q r (hcol 10 e)) (fun r e => K r (hcol 10 e)) (fun r e => V r (hcol 10 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl
  · rw [dif_neg (by omega), dif_neg (by omega), dif_neg (by omega), dif_neg (by omega), dif_neg (by omega), dif_neg (by omega), dif_neg (by omega), dif_neg (by omega), dif_neg (by omega), dif_neg (by omega), dif_neg (by omega)]
    have e1 : hd j = 11 := Fin.ext hc
    have e2 : lo j = ⟨(j : ℕ) - 704, by omega⟩ := Fin.ext (by simp only [lo]; omega)
    rw [e1, e2]
    refine (headC_real _ _ _ (fun r e => Q r (hcol 11 e)) (fun r e => K r (hcol 11 e)) (fun r e => V r (hcol 11 e)) ?_ ?_ ?_ _ _).trans ?_
    · intro r e; pointwise; rw [hq]; congr 3 <;> exact Fin.ext (by simp [hcol])
    · intro r e; pointwise; rw [hk]; congr 2 <;> exact Fin.ext (by simp [hcol])
    · intro r e; pointwise; rw [hv]; congr 2 <;> exact Fin.ext (by simp [hcol])
    · rfl

/-- The kernel's input with the self-attention added. -/
theorem saOf_real (x : Vec Ideal S1x512x768 .f32) (W0 : FVec Ideal S768x2304 .bf16) (W1 : FVec Ideal S768x768 .bf16)
    (X : Fin 512 → Fin 768 → ℝ) (A : Fin 768 → Fin 2304 → ℝ) (O : Fin 768 → Fin 768 → ℝ)
    (hx : ∀ r l, k0_pay19 x (ix2 r l) = ((X r l : ℝ) : EReal)) (hW : ∀ k j, W0 (ix2 k j) = ((foldA A k j : ℝ) : EReal))
    (hO : ∀ k j, W1 (ix2 k j) = ((O k j : ℝ) : EReal)) (r : Fin 512) (l : Fin 768) :
    saOf x W0 W1 (ix2 r l) = ((saR X A O r l : ℝ) : EReal) := by
  rw [saOf_eq]
  have hm := mm512_real (truncf .bf16 (headsS x W0) bitsLt_bf16_f32) W1 (fun r j => selfR X A r (hd j) (lo j)) O
    (fun r j => headsS_real x W0 X A hx hW r j) hO
  pointwise [hx, hm]
  rw [← EReal.coe_add]; rfl

/-- The cross-attention added. -/
theorem caOf_real (x : FVec Ideal S512x768 .f32) (y : Vec Ideal S1x1024x768 .f32) (W2 W3 W4 W5 : FVec Ideal S768x768 .bf16)
    (X : Fin 512 → Fin 768 → ℝ) (Y : Fin 1024 → Fin 768 → ℝ) (WQ WK WV O : Fin 768 → Fin 768 → ℝ)
    (hx : ∀ r l, x (ix2 r l) = ((X r l : ℝ) : EReal)) (hy : ∀ r l, k0_pay20 y (ix2 r l) = ((Y r l : ℝ) : EReal))
    (h2 : ∀ k j, W2 (ix2 k j) = ((WQ k j * (1 / 8) : ℝ) : EReal)) (h3 : ∀ k j, W3 (ix2 k j) = ((WK k j : ℝ) : EReal))
    (h4 : ∀ k j, W4 (ix2 k j) = ((WV k j : ℝ) : EReal)) (h5 : ∀ k j, W5 (ix2 k j) = ((O k j : ℝ) : EReal))
    (r : Fin 512) (l : Fin 768) : caOf x y W2 W3 W4 W5 (ix2 r l) = ((caR X Y WQ WK WV O r l : ℝ) : EReal) := by
  rw [caOf_eq]
  have hq := mm512_real (ln512 x) W2 (fun r => lnR (X r)) (fun k j => WQ k j * (1 / 8)) (ln512_real x X hx) h2
  have hk := mm1024_real (ln1024 (k0_pay20 y)) W3 (fun r => lnR (Y r)) WK (ln1024_real _ Y hy) h3
  have hv := mm1024_real (ln1024 (k0_pay20 y)) W4 (fun r => lnR (Y r)) WV (ln1024_real _ Y hy) h4
  have hq' : ∀ r l, mm512 (ln512 x) W2 (ix2 r l) = ((dotR (lnR (X r)) WQ l * (1 / 8) : ℝ) : EReal) := fun r l => by
    rw [hq r l, dot_scaled _ WQ _ _ fun k => rfl]
  have hh := headsC_real (truncf .bf16 (mm512 (ln512 x) W2) bitsLt_bf16_f32) (truncf .bf16 (mm1024 (ln1024 (k0_pay20 y)) W3) bitsLt_bf16_f32)
    (truncf .bf16 (mm1024 (ln1024 (k0_pay20 y)) W4) bitsLt_bf16_f32) (fun r => dotR (lnR (X r)) WQ) (fun r => dotR (lnR (Y r)) WK) (fun r => dotR (lnR (Y r)) WV)
    (fun r l => hq' r l) (fun r l => hk r l) (fun r l => hv r l)
  have hm := mm512_real (truncf .bf16 (headsC (truncf .bf16 (mm512 (ln512 x) W2) bitsLt_bf16_f32)
      (truncf .bf16 (mm1024 (ln1024 (k0_pay20 y)) W3) bitsLt_bf16_f32) (truncf .bf16 (mm1024 (ln1024 (k0_pay20 y)) W4) bitsLt_bf16_f32)) bitsLt_bf16_f32) W5
    (fun r j => crossR X Y WQ WK WV r (hd j) (lo j)) O (fun r j => hh r j) h5
  pointwise [hx, hm]
  rw [← EReal.coe_add]; rfl

/-- The MLP's first product. -/
theorem hidA_real (x : FVec Ideal S512x768 .f32) (y : Vec Ideal S1x1024x768 .f32) (W2 W3 W4 W5 : FVec Ideal S768x768 .bf16) (W6 : FVec Ideal S768x3072 .bf16)
    (C : Fin 512 → Fin 768 → ℝ) (hc : ∀ r l, caOf x y W2 W3 W4 W5 (ix2 r l) = ((C r l : ℝ) : EReal)) (r : Fin 512) (j : Fin 3072) :
    hidA x y W2 W3 W4 W5 W6 (ix2 r j) = hidE (C r) (fun k j => W6 (ix2 k j)) j := by
  rw [hidA_eq]
  have hl := ln512_real (caOf x y W2 W3 W4 W5) C hc
  pointwise [hl]
  rfl

/-- The block's result at one entry. -/
theorem blkOf_real (x : Vec Ideal S1x512x768 .f32) (y : Vec Ideal S1x1024x768 .f32) (W0 : FVec Ideal S768x2304 .bf16) (W1 W2 W3 W4 W5 : FVec Ideal S768x768 .bf16)
    (W6 : FVec Ideal S768x3072 .bf16) (W7 : FVec Ideal S3072x768 .bf16)
    (X : Fin 512 → Fin 768 → ℝ) (Y : Fin 1024 → Fin 768 → ℝ) (A : Fin 768 → Fin 2304 → ℝ) (AP WQ WK WV CP : Fin 768 → Fin 768 → ℝ)
    (hx : ∀ r l, k0_pay19 x (ix2 r l) = ((X r l : ℝ) : EReal)) (hy : ∀ r l, k0_pay20 y (ix2 r l) = ((Y r l : ℝ) : EReal))
    (h0 : ∀ k j, W0 (ix2 k j) = ((foldA A k j : ℝ) : EReal)) (h1 : ∀ k j, W1 (ix2 k j) = ((AP k j : ℝ) : EReal))
    (h2 : ∀ k j, W2 (ix2 k j) = ((WQ k j * (1 / 8) : ℝ) : EReal)) (h3 : ∀ k j, W3 (ix2 k j) = ((WK k j : ℝ) : EReal))
    (h4 : ∀ k j, W4 (ix2 k j) = ((WV k j : ℝ) : EReal)) (h5 : ∀ k j, W5 (ix2 k j) = ((CP k j : ℝ) : EReal))
    (r : Fin 512) (l : Fin 768) :
    blkOf x y W0 W1 W2 W3 W4 W5 W6 W7 (ix3 0 r l)
      = outE (caR (saR X A AP) Y WQ WK WV CP r) (fun k j => W6 (ix2 k j)) (fun k j => W7 (ix2 k j)) l := by
  have hs := saOf_real x W0 W1 X A AP hx h0 h1
  have hc := caOf_real (saOf x W0 W1) y W2 W3 W4 W5 _ Y WQ WK WV CP hs hy h2 h3 h4 h5
  have hh := hidA_real (saOf x W0 W1) y W2 W3 W4 W5 W6 _ hc
  have n1 : (Named.named (F := Ideal) κ "cubic" (φ := .bf16) 0x3D37#16) = ((12003091 / 268435456 : ℝ) : EReal) := rfl
  have n2 : (Named.named (F := Ideal) κ "root_2_over_pi" (φ := .bf16) 0x3F4C#16) = ((6693141 / 8388608 : ℝ) : EReal) := rfl
  unfold blkOf
  rw [hidB_eq]
  pointwise [k0_pay1, hc, hh, n1, n2]
  simp only [lit_half16]
  rfl

end Cert.KernelIdeal.Val

end
-- ==== Proof.Value.Final.lean ====
module

public import proofs.«01_k».proof.Proof.Ideal.Launch
public import proofs.«01_k».proof.Proof.Value.Stages

@[expose] public section

set_option maxRecDepth 16384

noncomputable section

namespace Cert.KernelIdeal.Val

open Cert.KernelIdeal Cert.KernelIdeal.Gen Cert.KernelIdeal.Hand Cert.Val
open Idealize.ShloMosaic Idealize.ShloMosaic.TcCoe

/-! ## The kept weights, entry by entry -/

/-- A square weight read as a stack of one has the same entries. -/
theorem sqz_at (w : FVec Ideal S768x768 .f32) (a b : Fin 768) : sqz (F := Ideal) w (ix3 0 a b) = w (ix2 a b) := by
  have e : shapeCast S768x768 (sqz (F := Ideal) w) shapeCasts_S1x768x768_S768x768 = w := by
    funext i
    exact congrArg w (Equiv.symm_apply_apply _ _)
  have e' := congrFun e (ix2 a b)
  pointwise at e'
  exact e'

/-- The copy of the self-attention's output weight that the kernel keeps has that weight's entries. -/
theorem keptAp_at (c : Dev nD) (w : BufOf (F := Ideal) c hbAp) (k : Fin 768) (j : Fin 768) :
    keptAp c w (ix2 k j) = (show EReal from w (ix2 k j)) := by
  unfold keptAp keptApL
  canon_tiles x h
  all_goals change (k : ℕ) = _ at h0
  all_goals change (j : ℕ) = _ at h1
  all_goals pointwise [k0_pay6, sqz_at]
  · refine congrArg w ?_
    blk_ext
    · show 0 + 1 * (x 0 : ℕ) = _; omega
    · show 0 + 1 * (x 1 : ℕ) = _; omega

/-- The kept copy of the query weight has its entries, scaled by one eighth. -/
theorem keptQ_at (c : Dev nD) (w : BufOf (F := Ideal) c hbQ) (k : Fin 768) (j : Fin 768) :
    keptQ c w (ix2 k j) = (show EReal from w (ix2 k j)) * Ideal.ofBits .f32 0x3E000000#32 := by
  unfold keptQ keptQL
  canon_tiles x h
  all_goals change (k : ℕ) = _ at h0
  all_goals change (j : ℕ) = _ at h1
  all_goals pointwise [k0_pay10, sqz_at]
  all_goals refine Ideal.mul_congr ?_ rfl
  · refine congrArg w ?_
    blk_ext
    · show 0 + 1 * (x 0 : ℕ) = _; omega
    · show 0 + 1 * (x 1 : ℕ) = _; omega

/-- The kept copy of the key weight has its entries. -/
theorem keptK_at (c : Dev nD) (w : BufOf (F := Ideal) c hbK) (k : Fin 768) (j : Fin 768) :
    keptK c w (ix2 k j) = (show EReal from w (ix2 k j)) := by
  unfold keptK keptKL
  canon_tiles x h
  all_goals change (k : ℕ) = _ at h0
  all_goals change (j : ℕ) = _ at h1
  all_goals pointwise [k0_pay7, sqz_at]
  · refine congrArg w ?_
    blk_ext
    · show 0 + 1 * (x 0 : ℕ) = _; omega
    · show 0 + 1 * (x 1 : ℕ) = _; omega

/-- The kept copy of the value weight has its entries. -/
theorem keptV_at (c : Dev nD) (w : BufOf (F := Ideal) c hbV) (k : Fin 768) (j : Fin 768) :
    keptV c w (ix2 k j) = (show EReal from w (ix2 k j)) := by
  unfold keptV keptVL
  canon_tiles x h
  all_goals change (k : ℕ) = _ at h0
  all_goals change (j : ℕ) = _ at h1
  all_goals pointwise [k0_pay9, k0_pay8, sqz_at]
  · refine congrArg w ?_
    blk_ext
    · show 0 + 1 * (x 0 : ℕ) = _; omega
    · show 0 + 1 * (x 1 : ℕ) = _; omega

/-- The kept copy of the cross-attention's output weight has its entries. -/
theorem keptCp_at (c : Dev nD) (w : BufOf (F := Ideal) c hbCp) (k : Fin 768) (j : Fin 768) :
    keptCp c w (ix2 k j) = (show EReal from w (ix2 k j)) := by
  unfold keptCp keptCpL
  canon_tiles x h
  all_goals change (k : ℕ) = _ at h0
  all_goals change (j : ℕ) = _ at h1
  all_goals pointwise [k0_pay18, sqz_at]
  · refine congrArg w ?_
    blk_ext
    · show 0 + 1 * (x 0 : ℕ) = _; omega
    · show 0 + 1 * (x 1 : ℕ) = _; omega

/-- The kept copy of the MLP's first weight, assembled from four column blocks, has its entries. -/
theorem keptFc1_at (c : Dev nD) (w : BufOf (F := Ideal) c hbFc1) (k : Fin 768) (j : Fin 3072) :
    keptFc1 c w (ix2 k j) = (show EReal from w (ix2 k j)) := by
  unfold keptFc1 keptFc1L
  canon_tiles x h
  all_goals change (k : ℕ) = _ at h0
  all_goals change (j : ℕ) = _ at h1
  all_goals pointwise [k0_pay14, k0_pay13, k0_pay12, k0_pay11, sqz_at]
  · refine congrArg w ?_
    blk_ext
    · show 0 + 1 * (x 0 : ℕ) = _; omega
    · show 2304 + 1 * (x 1 : ℕ) = _; omega
  · refine congrArg w ?_
    blk_ext
    · show 0 + 1 * (x 0 : ℕ) = _; omega
    · show 1536 + 1 * (x 1 : ℕ) = _; omega
  · refine congrArg w ?_
    blk_ext
    · show 0 + 1 * (x 0 : ℕ) = _; omega
    · show 768 + 1 * (x 1 : ℕ) = _; omega
  · refine congrArg w ?_
    blk_ext
    · show 0 + 1 * (x 0 : ℕ) = _; omega
    · show 0 + 1 * (x 1 : ℕ) = _; omega

/-- The kept copy of the MLP's second weight, assembled from four row blocks, has its entries. -/
theorem keptFc2_at (c : Dev nD) (w : BufOf (F := Ideal) c hbFc2) (k : Fin 3072) (j : Fin 768) :
    keptFc2 c w (ix2 k j) = (show EReal from w (ix2 k j)) := by
  unfold keptFc2 keptFc2L
  canon_tiles x h
  all_goals change (k : ℕ) = _ at h0
  all_goals change (j : ℕ) = _ at h1
  all_goals pointwise [k0_pay73, k0_pay17, k0_pay16, k0_pay15, sqz_at]
  · refine congrArg w ?_
    blk_ext
    · show 2304 + 1 * (x 0 : ℕ) = _; omega
    · show 0 + 1 * (x 1 : ℕ) = _; omega
  · refine congrArg w ?_
    blk_ext
    · show 1536 + 1 * (x 0 : ℕ) = _; omega
    · show 0 + 1 * (x 1 : ℕ) = _; omega
  · refine congrArg w ?_
    blk_ext
    · show 768 + 1 * (x 0 : ℕ) = _; omega
    · show 0 + 1 * (x 1 : ℕ) = _; omega
  · refine congrArg w ?_
    blk_ext
    · show 0 + 1 * (x 0 : ℕ) = _; omega
    · show 0 + 1 * (x 1 : ℕ) = _; omega

/-- The kept copy of the fused weight: the query columns scaled by one eighth, the others as they are. -/
theorem keptQkv_at (c : Dev nD) (w : BufOf (F := Ideal) c hbQkv) (k : Fin 768) (j : Fin 2304) :
    keptQkv c w (ix2 k j) = if (j : ℕ) < 768 then (show EReal from w (ix2 k j)) * Ideal.ofBits .f32 0x3E000000#32 else (show EReal from w (ix2 k j)) := by
  unfold keptQkv keptQkvL
  canon_tiles x h
  all_goals change (k : ℕ) = _ at h0
  all_goals change (j : ℕ) = _ at h1
  · rw [if_neg (by omega)]
    pointwise [k0_pay5, sqz_at]
    refine congrArg w ?_
    blk_ext
    · show 0 + 1 * (x 0 : ℕ) = _; omega
    · show 1536 + 1 * (x 1 : ℕ) = _; omega
  · rw [if_neg (by omega)]
    pointwise [k0_pay4, sqz_at]
    refine congrArg w ?_
    blk_ext
    · show 0 + 1 * (x 0 : ℕ) = _; omega
    · show 768 + 1 * (x 1 : ℕ) = _; omega
  · rw [if_pos (by omega)]
    pointwise [k0_pay3, k0_pay2, sqz_at]
    refine Ideal.mul_congr ?_ rfl
    refine congrArg w ?_
    blk_ext
    · show 0 + 1 * (x 0 : ℕ) = _; omega
    · show 0 + 1 * (x 1 : ℕ) = _; omega

/-! ## The result array -/

/-- At step `t` each window is the `t`-th batch entry. -/
theorem idx : ∀ t : Fin cfg0.N, win0_0.index t = ![t.val, 0, 0] ∧ win0_1.index t = ![t.val, 0, 0] ∧ win0_2.index t = ![t.val, 0, 0] ∧ t.val < 4 :=
  (by decide +kernel : ∀ t : Fin grid0.N, _)

variable (m : (ℓ : Loc nD τ sig) → Buf (Elt Ideal) ℓ)

/-- What step `t` reads of the queries' input is batch entry `t`. -/
theorem in0 (c : Dev nD) (t : Fin cfg0.N) (b : Fin 4) (hb : (b : ℕ) = t.val) (r : Fin 512) (l : Fin 768) :
    k0_pay19 (F := Ideal) (iblk m c 0 t) (ix2 r l) = (show EReal from m ((c.tc : Thread nD τ).loc main_arg0) (ix3 b r l)) := by
  pointwise [k0_pay19]
  blk_ext [iblk, V, idx t]

/-- What step `t` reads of the keys' input is batch entry `t`. -/
theorem in1 (c : Dev nD) (t : Fin cfg0.N) (b : Fin 4) (hb : (b : ℕ) = t.val) (r : Fin 1024) (l : Fin 768) :
    k0_pay20 (F := Ideal) (iblk m c 1 t) (ix2 r l) = (show EReal from m ((c.tc : Thread nD τ).loc main_arg1) (ix3 b r l)) := by
  pointwise [k0_pay20]
  blk_ext [iblk, V, idx t]

/-- The block a grid point leaves, at one entry. -/
theorem outAt_real (c : Dev nD) (t : Fin cfg0.N) (b : Fin 4) (hb : (b : ℕ) = t.val)
    (X : Fin 4 → Fin 512 → Fin 768 → ℝ) (Y : Fin 4 → Fin 1024 → Fin 768 → ℝ) (A : Fin 768 → Fin 2304 → ℝ) (AP WQ WK WV CP : Fin 768 → Fin 768 → ℝ)
    (h0 : ∀ b r l, (show EReal from m ((c.tc : Thread nD τ).loc main_arg0) (ix3 b r l)) = ((X b r l : ℝ) : EReal))
    (h1 : ∀ b r l, (show EReal from m ((c.tc : Thread nD τ).loc main_arg1) (ix3 b r l)) = ((Y b r l : ℝ) : EReal))
    (h6 : ∀ k j, (show EReal from m ((c.tc : Thread nD τ).loc main_arg6) (ix2 k j)) = ((A k j : ℝ) : EReal))
    (h8 : ∀ k j, (show EReal from m ((c.tc : Thread nD τ).loc main_arg8) (ix2 k j)) = ((AP k j : ℝ) : EReal))
    (h14 : ∀ k j, (show EReal from m ((c.tc : Thread nD τ).loc main_arg14) (ix2 k j)) = ((WQ k j : ℝ) : EReal))
    (h16 : ∀ k j, (show EReal from m ((c.tc : Thread nD τ).loc main_arg16) (ix2 k j)) = ((WK k j : ℝ) : EReal))
    (h18 : ∀ k j, (show EReal from m ((c.tc : Thread nD τ).loc main_arg18) (ix2 k j)) = ((WV k j : ℝ) : EReal))
    (h20 : ∀ k j, (show EReal from m ((c.tc : Thread nD τ).loc main_arg20) (ix2 k j)) = ((CP k j : ℝ) : EReal))
    (r : Fin 512) (l : Fin 768) :
    outAt (F := Ideal) m c t (ix3 0 r l)
      = outE (caR (saR (X b) A AP) (Y b) WQ WK WV CP r) (fun k j => (show EReal from m ((c.tc : Thread nD τ).loc main_arg24) (ix2 k j)))
          (fun k j => (show EReal from m ((c.tc : Thread nD τ).loc main_arg26) (ix2 k j))) l := by
  unfold outAt
  refine (blkOf_real _ _ _ _ _ _ _ _ _ _ (X b) (Y b) A AP WQ WK WV CP
    (fun r l => (in0 m c t b hb r l).trans (h0 b r l)) (fun r l => (in1 m c t b hb r l).trans (h1 b r l))
    (fun k j => ?_) (fun k j => (keptAp_at c _ k j).trans (h8 k j)) (fun k j => ?_) (fun k j => (keptK_at c _ k j).trans (h16 k j))
    (fun k j => (keptV_at c _ k j).trans (h18 k j)) (fun k j => (keptCp_at c _ k j).trans (h20 k j)) r l).trans ?_
  · refine (keptQkv_at c _ k j).trans ?_
    have e := h6 k j
    unfold foldA
    split_ifs
    · refine (Ideal.mul_congr e lit_eighth).trans ?_
      rw [← EReal.coe_mul]
    · exact e
  · refine (keptQ_at c _ k j).trans ?_
    refine (Ideal.mul_congr (h14 k j) lit_eighth).trans ?_
    rw [← EReal.coe_mul]
  · exact congrArg₂ (fun W Z => outE _ W Z l) (funext fun k => funext fun j => keptFc1_at c _ k j) (funext fun k => funext fun j => keptFc2_at c _ k j)

/-- The result array after the run. -/
theorem final (c : Dev nD) (G : FVec Ideal S4x512x768 .f32)
    (hG : ∀ (t : Fin cfg0.N) (b : Fin 4) (r : Fin 512) (l : Fin 768), (b : ℕ) = t.val → outAt (F := Ideal) m c t (ix3 0 r l) = G (ix3 b r l)) :
    (dats m 0 c).arrAt 2 cfg0.N = G := by
  refine (dats m 0 c).arrAt_eq_of_covers 2 _ (by decide +kernel) fun t _ y => ?_
  blk_simp
  rw [after0_2]
  have ht : t.val < 4 := (idx t).2.2.2
  idx_vars y
  obtain rfl : y0 = 0 := Subsingleton.elim _ _
  refine (hG t ⟨t.val, ht⟩ y1 y2 rfl).trans (congrArg G ?_)
  blk_ext [idx t]

end Cert.KernelIdeal.Val

end
-- ==== Proof.Value.Ref.lean ====
module

public import proofs.«01_k».proof.Proof.Gen.ReferenceIdeal.Read
public import proofs.«01_k».proof.Proof.Value.Real

@[expose] public section

set_option maxRecDepth 16384

noncomputable section

namespace Cert.ReferenceIdeal.Val

open Cert.ReferenceIdeal Cert.ReferenceIdeal.Gen Cert.ReferenceIdeal.Read Cert.Val
open Idealize.ShloMosaic

/-- The first layer norm. -/
theorem r25 (x0 : FVec Ideal S4x512x768 .f32) (x4 : FVec Ideal S768 .f32) (x5 : FVec Ideal S768 .f32) (X : Fin 4 → Fin 512 → Fin 768 → ℝ) (h0 : ∀ b r l, x0 (ix3 b r l) = ((X b r l : ℝ) : EReal)) (h4 : ∀ l, x4 (ix1 l) = 1) (h5 : ∀ l, x5 (ix1 l) = 0) (b : Fin 4) (r : Fin 512) (l : Fin 768) : val_main_v25 (F := Ideal) x0 x4 x5 (ix3 b r l) = ((lnR (X b r) l : ℝ) : EReal) := by
  pointwise [val_main_v25, val_main_v24, val_main_v23, val_main_v22, val_main_v21, val_main_v20, val_main_v19, val_main_v18, val_main_v17, val_main_v16, val_main_v15, val_main_cst_3, val_main_v14, val_main_v13, val_main_v12, val_main_v11, val_main_cst_2, val_main_v10, val_main_v9, val_main_cst_1, val_main_v8, val_main_v7, val_main_v6, val_main_v5, val_main_v4, val_main_v3, val_main_v2, val_main_cst_0, val_main_v1, val_main_v0, val_main_cst, h0, h4, h5]
  exact ln_reference (X b r) l

/-- The fused product: queries, keys and values side by side. -/
theorem r29 (x0 : FVec Ideal S4x512x768 .f32) (x4 : FVec Ideal S768 .f32) (x5 : FVec Ideal S768 .f32) (x6 : FVec Ideal S768x2304 .f32) (x7 : FVec Ideal S2304 .f32) (X : Fin 4 → Fin 512 → Fin 768 → ℝ) (A : Fin 768 → Fin 2304 → ℝ) (h0 : ∀ b r l, x0 (ix3 b r l) = ((X b r l : ℝ) : EReal)) (h4 : ∀ l, x4 (ix1 l) = 1) (h5 : ∀ l, x5 (ix1 l) = 0) (h6 : ∀ k j, x6 (ix2 k j) = ((A k j : ℝ) : EReal)) (h7 : ∀ l, x7 (ix1 l) = 0) (b : Fin 4) (r : Fin 512) (j : Fin 2304) : val_main_v29 (F := Ideal) x0 x4 x5 x6 x7 (ix3 b r j) = ((dotR (lnR (X b r)) A j : ℝ) : EReal) := by
  have hs := r25 x0 x4 x5 X h0 h4 h5
  pointwise [val_main_v29, val_main_v28, val_main_v27, val_main_v26, hs, h6, h7]
  simp only [← EReal.coe_mul, sum_real]
  rfl

/-- A query of a head is a column of the fused product. -/
theorem m33 (x0 : FVec Ideal S4x512x768 .f32) (x4 : FVec Ideal S768 .f32) (x5 : FVec Ideal S768 .f32) (x6 : FVec Ideal S768x2304 .f32) (x7 : FVec Ideal S2304 .f32) (b : Fin 4) (h : Fin 12) (r : Fin 512) (e : Fin 64) : val_main_v33 (F := Ideal) x0 x4 x5 x6 x7 (ix4 b h r e) = val_main_v29 (F := Ideal) x0 x4 x5 x6 x7 (ix3 b r (hcol3 0 h e)) := by
  pointwise [val_main_v33, val_main_v32, val_main_v31, val_main_v30]
  refine congrArg _ (congrArg (ix3 b r) (Fin.ext ?_))
  simp [hcol3] <;> omega

/-- A key of a head is a column of the fused product. -/
theorem m35 (x0 : FVec Ideal S4x512x768 .f32) (x4 : FVec Ideal S768 .f32) (x5 : FVec Ideal S768 .f32) (x6 : FVec Ideal S768x2304 .f32) (x7 : FVec Ideal S2304 .f32) (b : Fin 4) (h : Fin 12) (r : Fin 512) (e : Fin 64) : val_main_v35 (F := Ideal) x0 x4 x5 x6 x7 (ix4 b h r e) = val_main_v29 (F := Ideal) x0 x4 x5 x6 x7 (ix3 b r (hcol3 1 h e)) := by
  pointwise [val_main_v35, val_main_v34, val_main_v31, val_main_v30]
  refine congrArg _ (congrArg (ix3 b r) (Fin.ext ?_))
  simp [hcol3] <;> omega

/-- A value of a head is a column of the fused product. -/
theorem m37 (x0 : FVec Ideal S4x512x768 .f32) (x4 : FVec Ideal S768 .f32) (x5 : FVec Ideal S768 .f32) (x6 : FVec Ideal S768x2304 .f32) (x7 : FVec Ideal S2304 .f32) (b : Fin 4) (h : Fin 12) (r : Fin 512) (e : Fin 64) : val_main_v37 (F := Ideal) x0 x4 x5 x6 x7 (ix4 b h r e) = val_main_v29 (F := Ideal) x0 x4 x5 x6 x7 (ix3 b r (hcol3 2 h e)) := by
  pointwise [val_main_v37, val_main_v36, val_main_v31, val_main_v30]
  refine congrArg _ (congrArg (ix3 b r) (Fin.ext ?_))
  simp [hcol3] <;> omega

/-- One head of the self-attention. -/
theorem r49 (x0 : FVec Ideal S4x512x768 .f32) (x4 : FVec Ideal S768 .f32) (x5 : FVec Ideal S768 .f32) (x6 : FVec Ideal S768x2304 .f32) (x7 : FVec Ideal S2304 .f32) (X : Fin 4 → Fin 512 → Fin 768 → ℝ) (A : Fin 768 → Fin 2304 → ℝ) (h0 : ∀ b r l, x0 (ix3 b r l) = ((X b r l : ℝ) : EReal)) (h4 : ∀ l, x4 (ix1 l) = 1) (h5 : ∀ l, x5 (ix1 l) = 0) (h6 : ∀ k j, x6 (ix2 k j) = ((A k j : ℝ) : EReal)) (h7 : ∀ l, x7 (ix1 l) = 0) (b : Fin 4) (h : Fin 12) (r : Fin 512) (d : Fin 64) : val_main_v49 (F := Ideal) x0 x4 x5 x6 x7 (ix4 b h r d) = ((selfR (X b) A r h d : ℝ) : EReal) := by
  have hs := r29 x0 x4 x5 x6 x7 X A h0 h4 h5 h6 h7
  have hq := fun b h r e => (m33 x0 x4 x5 x6 x7 b h r e).trans (hs b r _)
  have hk := fun b h r e => (m35 x0 x4 x5 x6 x7 b h r e).trans (hs b r _)
  have hv := fun b h r e => (m37 x0 x4 x5 x6 x7 b h r e).trans (hs b r _)
  pointwise [val_main_v49, val_main_v48, val_main_v47, val_main_v46, val_main_v45, val_main_cst_6, val_main_v44, val_main_v43, val_main_cst_5, val_main_v42, val_main_v41, val_main_v40, val_main_cst_4, val_main_v39, val_main_v38, hq, hk, hv]
  unfold selfR
  exact attn_reference (fun e => dotR (lnR (X b r)) A (hcol3 0 h e)) (fun n e => dotR (lnR (X b n)) A (hcol3 1 h e)) (fun n e => dotR (lnR (X b n)) A (hcol3 2 h e)) d

/-- The heads of the self-attention laid side by side. -/
theorem m51 (x0 : FVec Ideal S4x512x768 .f32) (x4 : FVec Ideal S768 .f32) (x5 : FVec Ideal S768 .f32) (x6 : FVec Ideal S768x2304 .f32) (x7 : FVec Ideal S2304 .f32) (b : Fin 4) (r : Fin 512) (j : Fin 768) : val_main_v51 (F := Ideal) x0 x4 x5 x6 x7 (ix3 b r j) = val_main_v49 (F := Ideal) x0 x4 x5 x6 x7 (ix4 b (hd j) r (lo j)) := by
  pointwise [val_main_v51, val_main_v50]
  exact congrArg _ rfl

/-- The block's input with the self-attention added. -/
theorem r56 (x0 : FVec Ideal S4x512x768 .f32) (x4 : FVec Ideal S768 .f32) (x5 : FVec Ideal S768 .f32) (x6 : FVec Ideal S768x2304 .f32) (x7 : FVec Ideal S2304 .f32) (x8 : FVec Ideal S768x768 .f32) (x9 : FVec Ideal S768 .f32) (X : Fin 4 → Fin 512 → Fin 768 → ℝ) (A : Fin 768 → Fin 2304 → ℝ) (AP : Fin 768 → Fin 768 → ℝ) (h0 : ∀ b r l, x0 (ix3 b r l) = ((X b r l : ℝ) : EReal)) (h4 : ∀ l, x4 (ix1 l) = 1) (h5 : ∀ l, x5 (ix1 l) = 0) (h6 : ∀ k j, x6 (ix2 k j) = ((A k j : ℝ) : EReal)) (h7 : ∀ l, x7 (ix1 l) = 0) (h8 : ∀ k j, x8 (ix2 k j) = ((AP k j : ℝ) : EReal)) (h9 : ∀ l, x9 (ix1 l) = 0) (b : Fin 4) (r : Fin 512) (l : Fin 768) : val_main_v56 (F := Ideal) x0 x4 x5 x6 x7 x8 x9 (ix3 b r l) = ((saR (X b) A AP r l : ℝ) : EReal) := by
  have hs := fun b r j => (m51 x0 x4 x5 x6 x7 b r j).trans (r49 x0 x4 x5 x6 x7 X A h0 h4 h5 h6 h7 b (hd j) r (lo j))
  pointwise [val_main_v56, val_main_v55, val_main_v54, val_main_v53, val_main_v52, h0, h8, h9, hs]
  simp only [← EReal.coe_mul, sum_real, ← EReal.coe_add]
  rfl

/-- The layer norm of `y`. -/
theorem r82 (x1 : FVec Ideal S4x1024x768 .f32) (x12 : FVec Ideal S768 .f32) (x13 : FVec Ideal S768 .f32) (Y : Fin 4 → Fin 1024 → Fin 768 → ℝ) (h1 : ∀ b r l, x1 (ix3 b r l) = ((Y b r l : ℝ) : EReal)) (h12 : ∀ l, x12 (ix1 l) = 1) (h13 : ∀ l, x13 (ix1 l) = 0) (b : Fin 4) (r : Fin 1024) (l : Fin 768) : val_main_v82 (F := Ideal) x1 x12 x13 (ix3 b r l) = ((lnR (Y b r) l : ℝ) : EReal) := by
  pointwise [val_main_v82, val_main_v81, val_main_v80, val_main_v79, val_main_v78, val_main_v77, val_main_v76, val_main_v75, val_main_v74, val_main_v73, val_main_v72, val_main_cst_11, val_main_v71, val_main_v70, val_main_v69, val_main_v68, val_main_cst_10, val_main_v67, val_main_v66, val_main_cst_9, val_main_v65, val_main_v64, val_main_v63, val_main_v62, val_main_v61, val_main_v60, val_main_v59, val_main_cst_8, val_main_v58, val_main_v57, val_main_cst_7, h1, h12, h13]
  exact ln_reference (Y b r) l

/-- The second layer norm. -/
theorem r108 (x0 : FVec Ideal S4x512x768 .f32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (X : Fin 4 → Fin 512 → Fin 768 → ℝ) (A : Fin 768 → Fin 2304 → ℝ) (AP : Fin 768 → Fin 768 → ℝ) (h0 : ∀ b r l, x0 (ix3 b r l) = ((X b r l : ℝ) : EReal)) (h4 : ∀ l, x4 (ix1 l) = 1) (h5 : ∀ l, x5 (ix1 l) = 0) (h6 : ∀ k j, x6 (ix2 k j) = ((A k j : ℝ) : EReal)) (h7 : ∀ l, x7 (ix1 l) = 0) (h8 : ∀ k j, x8 (ix2 k j) = ((AP k j : ℝ) : EReal)) (h9 : ∀ l, x9 (ix1 l) = 0) (h10 : ∀ l, x10 (ix1 l) = 1) (h11 : ∀ l, x11 (ix1 l) = 0) (b : Fin 4) (r : Fin 512) (l : Fin 768) : val_main_v108 (F := Ideal) x0 x4 x5 x6 x7 x8 x9 x10 x11 (ix3 b r l) = ((lnR (saR (X b) A AP r) l : ℝ) : EReal) := by
  have hs := r56 x0 x4 x5 x6 x7 x8 x9 X A AP h0 h4 h5 h6 h7 h8 h9
  pointwise [val_main_v108, val_main_v107, val_main_v106, val_main_v105, val_main_v104, val_main_v103, val_main_v102, val_main_v101, val_main_v100, val_main_v99, val_main_v98, val_main_cst_16, val_main_v97, val_main_v96, val_main_v95, val_main_v94, val_main_cst_15, val_main_v93, val_main_v92, val_main_cst_14, val_main_v91, val_main_v90, val_main_v89, val_main_v88, val_main_v87, val_main_v86, val_main_v85, val_main_cst_13, val_main_v84, val_main_v83, val_main_cst_12, hs, h10, h11]
  exact ln_reference (saR (X b) A AP r) l

/-- The cross-attention's queries. -/
theorem r112 (x0 : FVec Ideal S4x512x768 .f32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x14 : FVec Ideal S768x768 .f32) (x15 : FVec Ideal S768 .f32) (X : Fin 4 → Fin 512 → Fin 768 → ℝ) (A : Fin 768 → Fin 2304 → ℝ) (AP : Fin 768 → Fin 768 → ℝ) (WQ : Fin 768 → Fin 768 → ℝ) (h0 : ∀ b r l, x0 (ix3 b r l) = ((X b r l : ℝ) : EReal)) (h4 : ∀ l, x4 (ix1 l) = 1) (h5 : ∀ l, x5 (ix1 l) = 0) (h6 : ∀ k j, x6 (ix2 k j) = ((A k j : ℝ) : EReal)) (h7 : ∀ l, x7 (ix1 l) = 0) (h8 : ∀ k j, x8 (ix2 k j) = ((AP k j : ℝ) : EReal)) (h9 : ∀ l, x9 (ix1 l) = 0) (h10 : ∀ l, x10 (ix1 l) = 1) (h11 : ∀ l, x11 (ix1 l) = 0) (h14 : ∀ k j, x14 (ix2 k j) = ((WQ k j : ℝ) : EReal)) (h15 : ∀ l, x15 (ix1 l) = 0) (b : Fin 4) (r : Fin 512) (j : Fin 768) : val_main_v112 (F := Ideal) x0 x4 x5 x6 x7 x8 x9 x10 x11 x14 x15 (ix3 b r j) = ((dotR (lnR (saR (X b) A AP r)) WQ j : ℝ) : EReal) := by
  have hs := r108 x0 x4 x5 x6 x7 x8 x9 x10 x11 X A AP h0 h4 h5 h6 h7 h8 h9 h10 h11
  pointwise [val_main_v112, val_main_v111, val_main_v110, val_main_v109, hs, h14, h15]
  simp only [← EReal.coe_mul, sum_real]
  rfl

/-- Its keys. -/
theorem r118 (x1 : FVec Ideal S4x1024x768 .f32) (x12 : FVec Ideal S768 .f32) (x13 : FVec Ideal S768 .f32) (x16 : FVec Ideal S768x768 .f32) (x17 : FVec Ideal S768 .f32) (Y : Fin 4 → Fin 1024 → Fin 768 → ℝ) (WK : Fin 768 → Fin 768 → ℝ) (h1 : ∀ b r l, x1 (ix3 b r l) = ((Y b r l : ℝ) : EReal)) (h12 : ∀ l, x12 (ix1 l) = 1) (h13 : ∀ l, x13 (ix1 l) = 0) (h16 : ∀ k j, x16 (ix2 k j) = ((WK k j : ℝ) : EReal)) (h17 : ∀ l, x17 (ix1 l) = 0) (b : Fin 4) (r : Fin 1024) (j : Fin 768) : val_main_v118 (F := Ideal) x1 x12 x13 x16 x17 (ix3 b r j) = ((dotR (lnR (Y b r)) WK j : ℝ) : EReal) := by
  have hs := r82 x1 x12 x13 Y h1 h12 h13
  pointwise [val_main_v118, val_main_v117, val_main_v116, val_main_v115, hs, h16, h17]
  simp only [← EReal.coe_mul, sum_real]
  rfl

/-- Its values. -/
theorem r124 (x1 : FVec Ideal S4x1024x768 .f32) (x12 : FVec Ideal S768 .f32) (x13 : FVec Ideal S768 .f32) (x18 : FVec Ideal S768x768 .f32) (x19 : FVec Ideal S768 .f32) (Y : Fin 4 → Fin 1024 → Fin 768 → ℝ) (WV : Fin 768 → Fin 768 → ℝ) (h1 : ∀ b r l, x1 (ix3 b r l) = ((Y b r l : ℝ) : EReal)) (h12 : ∀ l, x12 (ix1 l) = 1) (h13 : ∀ l, x13 (ix1 l) = 0) (h18 : ∀ k j, x18 (ix2 k j) = ((WV k j : ℝ) : EReal)) (h19 : ∀ l, x19 (ix1 l) = 0) (b : Fin 4) (r : Fin 1024) (j : Fin 768) : val_main_v124 (F := Ideal) x1 x12 x13 x18 x19 (ix3 b r j) = ((dotR (lnR (Y b r)) WV j : ℝ) : EReal) := by
  have hs := r82 x1 x12 x13 Y h1 h12 h13
  pointwise [val_main_v124, val_main_v123, val_main_v122, val_main_v121, hs, h18, h19]
  simp only [← EReal.coe_mul, sum_real]
  rfl

/-- A query of a head is a column of the query product. -/
theorem m114 (x0 : FVec Ideal S4x512x768 .f32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x14 : FVec Ideal S768x768 .f32) (x15 : FVec Ideal S768 .f32) (b : Fin 4) (h : Fin 12) (r : Fin 512) (e : Fin 64) : val_main_v114 (F := Ideal) x0 x4 x5 x6 x7 x8 x9 x10 x11 x14 x15 (ix4 b h r e) = val_main_v112 (F := Ideal) x0 x4 x5 x6 x7 x8 x9 x10 x11 x14 x15 (ix3 b r (hcol h e)) := by
  pointwise [val_main_v114, val_main_v113]
  refine congrArg _ (congrArg (ix3 b r) (Fin.ext ?_))
  simp [hcol] <;> omega

/-- A key of a head is a column of the key product. -/
theorem m120 (x1 : FVec Ideal S4x1024x768 .f32) (x12 : FVec Ideal S768 .f32) (x13 : FVec Ideal S768 .f32) (x16 : FVec Ideal S768x768 .f32) (x17 : FVec Ideal S768 .f32) (b : Fin 4) (h : Fin 12) (r : Fin 1024) (e : Fin 64) : val_main_v120 (F := Ideal) x1 x12 x13 x16 x17 (ix4 b h r e) = val_main_v118 (F := Ideal) x1 x12 x13 x16 x17 (ix3 b r (hcol h e)) := by
  pointwise [val_main_v120, val_main_v119]
  refine congrArg _ (congrArg (ix3 b r) (Fin.ext ?_))
  simp [hcol] <;> omega

/-- A value of a head is a column of the value product. -/
theorem m126 (x1 : FVec Ideal S4x1024x768 .f32) (x12 : FVec Ideal S768 .f32) (x13 : FVec Ideal S768 .f32) (x18 : FVec Ideal S768x768 .f32) (x19 : FVec Ideal S768 .f32) (b : Fin 4) (h : Fin 12) (r : Fin 1024) (e : Fin 64) : val_main_v126 (F := Ideal) x1 x12 x13 x18 x19 (ix4 b h r e) = val_main_v124 (F := Ideal) x1 x12 x13 x18 x19 (ix3 b r (hcol h e)) := by
  pointwise [val_main_v126, val_main_v125]
  refine congrArg _ (congrArg (ix3 b r) (Fin.ext ?_))
  simp [hcol] <;> omega

/-- One head of the cross-attention. -/
theorem r138 (x0 : FVec Ideal S4x512x768 .f32) (x1 : FVec Ideal S4x1024x768 .f32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (X : Fin 4 → Fin 512 → Fin 768 → ℝ) (Y : Fin 4 → Fin 1024 → Fin 768 → ℝ) (A : Fin 768 → Fin 2304 → ℝ) (AP : Fin 768 → Fin 768 → ℝ) (WQ : Fin 768 → Fin 768 → ℝ) (WK : Fin 768 → Fin 768 → ℝ) (WV : Fin 768 → Fin 768 → ℝ) (h0 : ∀ b r l, x0 (ix3 b r l) = ((X b r l : ℝ) : EReal)) (h1 : ∀ b r l, x1 (ix3 b r l) = ((Y b r l : ℝ) : EReal)) (h4 : ∀ l, x4 (ix1 l) = 1) (h5 : ∀ l, x5 (ix1 l) = 0) (h6 : ∀ k j, x6 (ix2 k j) = ((A k j : ℝ) : EReal)) (h7 : ∀ l, x7 (ix1 l) = 0) (h8 : ∀ k j, x8 (ix2 k j) = ((AP k j : ℝ) : EReal)) (h9 : ∀ l, x9 (ix1 l) = 0) (h10 : ∀ l, x10 (ix1 l) = 1) (h11 : ∀ l, x11 (ix1 l) = 0) (h12 : ∀ l, x12 (ix1 l) = 1) (h13 : ∀ l, x13 (ix1 l) = 0) (h14 : ∀ k j, x14 (ix2 k j) = ((WQ k j : ℝ) : EReal)) (h15 : ∀ l, x15 (ix1 l) = 0) (h16 : ∀ k j, x16 (ix2 k j) = ((WK k j : ℝ) : EReal)) (h17 : ∀ l, x17 (ix1 l) = 0) (h18 : ∀ k j, x18 (ix2 k j) = ((WV k j : ℝ) : EReal)) (h19 : ∀ l, x19 (ix1 l) = 0) (b : Fin 4) (h : Fin 12) (r : Fin 512) (d : Fin 64) : val_main_v138 (F := Ideal) x0 x1 x4 x5 x6 x7 x8 x9 x10 x11 x12 x13 x14 x15 x16 x17 x18 x19 (ix4 b h r d) = ((crossR (saR (X b) A AP) (Y b) WQ WK WV r h d : ℝ) : EReal) := by
  have hq := fun b h r e => (m114 x0 x4 x5 x6 x7 x8 x9 x10 x11 x14 x15 b h r e).trans (r112 x0 x4 x5 x6 x7 x8 x9 x10 x11 x14 x15 X A AP WQ h0 h4 h5 h6 h7 h8 h9 h10 h11 h14 h15 b r _)
  have hk := fun b h r e => (m120 x1 x12 x13 x16 x17 b h r e).trans (r118 x1 x12 x13 x16 x17 Y WK h1 h12 h13 h16 h17 b r _)
  have hv := fun b h r e => (m126 x1 x12 x13 x18 x19 b h r e).trans (r124 x1 x12 x13 x18 x19 Y WV h1 h12 h13 h18 h19 b r _)
  pointwise [val_main_v138, val_main_v137, val_main_v136, val_main_v135, val_main_v134, val_main_cst_19, val_main_v133, val_main_v132, val_main_cst_18, val_main_v131, val_main_v130, val_main_v129, val_main_cst_17, val_main_v128, val_main_v127, hq, hk, hv]
  unfold crossR
  exact attn_reference (fun e => dotR (lnR (saR (X b) A AP r)) WQ (hcol h e)) (fun n e => dotR (lnR (Y b n)) WK (hcol h e)) (fun n e => dotR (lnR (Y b n)) WV (hcol h e)) d

/-- The heads of the cross-attention laid side by side. -/
theorem m140 (x0 : FVec Ideal S4x512x768 .f32) (x1 : FVec Ideal S4x1024x768 .f32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (b : Fin 4) (r : Fin 512) (j : Fin 768) : val_main_v140 (F := Ideal) x0 x1 x4 x5 x6 x7 x8 x9 x10 x11 x12 x13 x14 x15 x16 x17 x18 x19 (ix3 b r j) = val_main_v138 (F := Ideal) x0 x1 x4 x5 x6 x7 x8 x9 x10 x11 x12 x13 x14 x15 x16 x17 x18 x19 (ix4 b (hd j) r (lo j)) := by
  pointwise [val_main_v140, val_main_v139]
  exact congrArg _ rfl

/-- The cross-attention added. -/
theorem r145 (x0 : FVec Ideal S4x512x768 .f32) (x1 : FVec Ideal S4x1024x768 .f32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (X : Fin 4 → Fin 512 → Fin 768 → ℝ) (Y : Fin 4 → Fin 1024 → Fin 768 → ℝ) (A : Fin 768 → Fin 2304 → ℝ) (AP : Fin 768 → Fin 768 → ℝ) (WQ : Fin 768 → Fin 768 → ℝ) (WK : Fin 768 → Fin 768 → ℝ) (WV : Fin 768 → Fin 768 → ℝ) (CP : Fin 768 → Fin 768 → ℝ) (h0 : ∀ b r l, x0 (ix3 b r l) = ((X b r l : ℝ) : EReal)) (h1 : ∀ b r l, x1 (ix3 b r l) = ((Y b r l : ℝ) : EReal)) (h4 : ∀ l, x4 (ix1 l) = 1) (h5 : ∀ l, x5 (ix1 l) = 0) (h6 : ∀ k j, x6 (ix2 k j) = ((A k j : ℝ) : EReal)) (h7 : ∀ l, x7 (ix1 l) = 0) (h8 : ∀ k j, x8 (ix2 k j) = ((AP k j : ℝ) : EReal)) (h9 : ∀ l, x9 (ix1 l) = 0) (h10 : ∀ l, x10 (ix1 l) = 1) (h11 : ∀ l, x11 (ix1 l) = 0) (h12 : ∀ l, x12 (ix1 l) = 1) (h13 : ∀ l, x13 (ix1 l) = 0) (h14 : ∀ k j, x14 (ix2 k j) = ((WQ k j : ℝ) : EReal)) (h15 : ∀ l, x15 (ix1 l) = 0) (h16 : ∀ k j, x16 (ix2 k j) = ((WK k j : ℝ) : EReal)) (h17 : ∀ l, x17 (ix1 l) = 0) (h18 : ∀ k j, x18 (ix2 k j) = ((WV k j : ℝ) : EReal)) (h19 : ∀ l, x19 (ix1 l) = 0) (h20 : ∀ k j, x20 (ix2 k j) = ((CP k j : ℝ) : EReal)) (h21 : ∀ l, x21 (ix1 l) = 0) (b : Fin 4) (r : Fin 512) (l : Fin 768) : val_main_v145 (F := Ideal) x0 x1 x4 x5 x6 x7 x8 x9 x10 x11 x12 x13 x14 x15 x16 x17 x18 x19 x20 x21 (ix3 b r l) = ((caR (saR (X b) A AP) (Y b) WQ WK WV CP r l : ℝ) : EReal) := by
  have hx := r56 x0 x4 x5 x6 x7 x8 x9 X A AP h0 h4 h5 h6 h7 h8 h9
  have hs := fun b r j => (m140 x0 x1 x4 x5 x6 x7 x8 x9 x10 x11 x12 x13 x14 x15 x16 x17 x18 x19 b r j).trans (r138 x0 x1 x4 x5 x6 x7 x8 x9 x10 x11 x12 x13 x14 x15 x16 x17 x18 x19 X Y A AP WQ WK WV h0 h1 h4 h5 h6 h7 h8 h9 h10 h11 h12 h13 h14 h15 h16 h17 h18 h19 b (hd j) r (lo j))
  pointwise [val_main_v145, val_main_v144, val_main_v143, val_main_v142, val_main_v141, hx, h20, h21, hs]
  simp only [← EReal.coe_mul, sum_real, ← EReal.coe_add]
  rfl

/-- The third layer norm. -/
theorem r171 (x0 : FVec Ideal S4x512x768 .f32) (x1 : FVec Ideal S4x1024x768 .f32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (x22 : FVec Ideal S768 .f32) (x23 : FVec Ideal S768 .f32) (X : Fin 4 → Fin 512 → Fin 768 → ℝ) (Y : Fin 4 → Fin 1024 → Fin 768 → ℝ) (A : Fin 768 → Fin 2304 → ℝ) (AP : Fin 768 → Fin 768 → ℝ) (WQ : Fin 768 → Fin 768 → ℝ) (WK : Fin 768 → Fin 768 → ℝ) (WV : Fin 768 → Fin 768 → ℝ) (CP : Fin 768 → Fin 768 → ℝ) (h0 : ∀ b r l, x0 (ix3 b r l) = ((X b r l : ℝ) : EReal)) (h1 : ∀ b r l, x1 (ix3 b r l) = ((Y b r l : ℝ) : EReal)) (h4 : ∀ l, x4 (ix1 l) = 1) (h5 : ∀ l, x5 (ix1 l) = 0) (h6 : ∀ k j, x6 (ix2 k j) = ((A k j : ℝ) : EReal)) (h7 : ∀ l, x7 (ix1 l) = 0) (h8 : ∀ k j, x8 (ix2 k j) = ((AP k j : ℝ) : EReal)) (h9 : ∀ l, x9 (ix1 l) = 0) (h10 : ∀ l, x10 (ix1 l) = 1) (h11 : ∀ l, x11 (ix1 l) = 0) (h12 : ∀ l, x12 (ix1 l) = 1) (h13 : ∀ l, x13 (ix1 l) = 0) (h14 : ∀ k j, x14 (ix2 k j) = ((WQ k j : ℝ) : EReal)) (h15 : ∀ l, x15 (ix1 l) = 0) (h16 : ∀ k j, x16 (ix2 k j) = ((WK k j : ℝ) : EReal)) (h17 : ∀ l, x17 (ix1 l) = 0) (h18 : ∀ k j, x18 (ix2 k j) = ((WV k j : ℝ) : EReal)) (h19 : ∀ l, x19 (ix1 l) = 0) (h20 : ∀ k j, x20 (ix2 k j) = ((CP k j : ℝ) : EReal)) (h21 : ∀ l, x21 (ix1 l) = 0) (h22 : ∀ l, x22 (ix1 l) = 1) (h23 : ∀ l, x23 (ix1 l) = 0) (b : Fin 4) (r : Fin 512) (l : Fin 768) : val_main_v171 (F := Ideal) x0 x1 x4 x5 x6 x7 x8 x9 x10 x11 x12 x13 x14 x15 x16 x17 x18 x19 x20 x21 x22 x23 (ix3 b r l) = ((lnR (caR (saR (X b) A AP) (Y b) WQ WK WV CP r) l : ℝ) : EReal) := by
  have hs := r145 x0 x1 x4 x5 x6 x7 x8 x9 x10 x11 x12 x13 x14 x15 x16 x17 x18 x19 x20 x21 X Y A AP WQ WK WV CP h0 h1 h4 h5 h6 h7 h8 h9 h10 h11 h12 h13 h14 h15 h16 h17 h18 h19 h20 h21
  pointwise [val_main_v171, val_main_v170, val_main_v169, val_main_v168, val_main_v167, val_main_v166, val_main_v165, val_main_v164, val_main_v163, val_main_v162, val_main_v161, val_main_cst_24, val_main_v160, val_main_v159, val_main_v158, val_main_v157, val_main_cst_23, val_main_v156, val_main_v155, val_main_cst_22, val_main_v154, val_main_v153, val_main_v152, val_main_v151, val_main_v150, val_main_v149, val_main_v148, val_main_cst_21, val_main_v147, val_main_v146, val_main_cst_20, hs, h22, h23]
  exact ln_reference (caR (saR (X b) A AP) (Y b) WQ WK WV CP r) l

/-- The MLP's first product. -/
theorem r175 (x0 : FVec Ideal S4x512x768 .f32) (x1 : FVec Ideal S4x1024x768 .f32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (x22 : FVec Ideal S768 .f32) (x23 : FVec Ideal S768 .f32) (x24 : FVec Ideal S768x3072 .f32) (x25 : FVec Ideal S3072 .f32) (X : Fin 4 → Fin 512 → Fin 768 → ℝ) (Y : Fin 4 → Fin 1024 → Fin 768 → ℝ) (A : Fin 768 → Fin 2304 → ℝ) (AP : Fin 768 → Fin 768 → ℝ) (WQ : Fin 768 → Fin 768 → ℝ) (WK : Fin 768 → Fin 768 → ℝ) (WV : Fin 768 → Fin 768 → ℝ) (CP : Fin 768 → Fin 768 → ℝ) (h0 : ∀ b r l, x0 (ix3 b r l) = ((X b r l : ℝ) : EReal)) (h1 : ∀ b r l, x1 (ix3 b r l) = ((Y b r l : ℝ) : EReal)) (h4 : ∀ l, x4 (ix1 l) = 1) (h5 : ∀ l, x5 (ix1 l) = 0) (h6 : ∀ k j, x6 (ix2 k j) = ((A k j : ℝ) : EReal)) (h7 : ∀ l, x7 (ix1 l) = 0) (h8 : ∀ k j, x8 (ix2 k j) = ((AP k j : ℝ) : EReal)) (h9 : ∀ l, x9 (ix1 l) = 0) (h10 : ∀ l, x10 (ix1 l) = 1) (h11 : ∀ l, x11 (ix1 l) = 0) (h12 : ∀ l, x12 (ix1 l) = 1) (h13 : ∀ l, x13 (ix1 l) = 0) (h14 : ∀ k j, x14 (ix2 k j) = ((WQ k j : ℝ) : EReal)) (h15 : ∀ l, x15 (ix1 l) = 0) (h16 : ∀ k j, x16 (ix2 k j) = ((WK k j : ℝ) : EReal)) (h17 : ∀ l, x17 (ix1 l) = 0) (h18 : ∀ k j, x18 (ix2 k j) = ((WV k j : ℝ) : EReal)) (h19 : ∀ l, x19 (ix1 l) = 0) (h20 : ∀ k j, x20 (ix2 k j) = ((CP k j : ℝ) : EReal)) (h21 : ∀ l, x21 (ix1 l) = 0) (h22 : ∀ l, x22 (ix1 l) = 1) (h23 : ∀ l, x23 (ix1 l) = 0) (h25 : ∀ l, x25 (ix1 l) = 0) (b : Fin 4) (r : Fin 512) (j : Fin 3072) : val_main_v175 (F := Ideal) x0 x1 x4 x5 x6 x7 x8 x9 x10 x11 x12 x13 x14 x15 x16 x17 x18 x19 x20 x21 x22 x23 x24 x25 (ix3 b r j) = hidE (caR (saR (X b) A AP) (Y b) WQ WK WV CP r) (fun k j => x24 (ix2 k j)) j := by
  have hs := r171 x0 x1 x4 x5 x6 x7 x8 x9 x10 x11 x12 x13 x14 x15 x16 x17 x18 x19 x20 x21 x22 x23 X Y A AP WQ WK WV CP h0 h1 h4 h5 h6 h7 h8 h9 h10 h11 h12 h13 h14 h15 h16 h17 h18 h19 h20 h21 h22 h23
  pointwise [val_main_v175, val_main_v174, val_main_v173, val_main_v172, hs, h25]
  rfl

/-- The reference's result at one entry. -/
theorem r193 (x0 : FVec Ideal S4x512x768 .f32) (x1 : FVec Ideal S4x1024x768 .f32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (x22 : FVec Ideal S768 .f32) (x23 : FVec Ideal S768 .f32) (x24 : FVec Ideal S768x3072 .f32) (x25 : FVec Ideal S3072 .f32) (x26 : FVec Ideal S3072x768 .f32) (x27 : FVec Ideal S768 .f32) (X : Fin 4 → Fin 512 → Fin 768 → ℝ) (Y : Fin 4 → Fin 1024 → Fin 768 → ℝ) (A : Fin 768 → Fin 2304 → ℝ) (AP : Fin 768 → Fin 768 → ℝ) (WQ : Fin 768 → Fin 768 → ℝ) (WK : Fin 768 → Fin 768 → ℝ) (WV : Fin 768 → Fin 768 → ℝ) (CP : Fin 768 → Fin 768 → ℝ) (h0 : ∀ b r l, x0 (ix3 b r l) = ((X b r l : ℝ) : EReal)) (h1 : ∀ b r l, x1 (ix3 b r l) = ((Y b r l : ℝ) : EReal)) (h4 : ∀ l, x4 (ix1 l) = 1) (h5 : ∀ l, x5 (ix1 l) = 0) (h6 : ∀ k j, x6 (ix2 k j) = ((A k j : ℝ) : EReal)) (h7 : ∀ l, x7 (ix1 l) = 0) (h8 : ∀ k j, x8 (ix2 k j) = ((AP k j : ℝ) : EReal)) (h9 : ∀ l, x9 (ix1 l) = 0) (h10 : ∀ l, x10 (ix1 l) = 1) (h11 : ∀ l, x11 (ix1 l) = 0) (h12 : ∀ l, x12 (ix1 l) = 1) (h13 : ∀ l, x13 (ix1 l) = 0) (h14 : ∀ k j, x14 (ix2 k j) = ((WQ k j : ℝ) : EReal)) (h15 : ∀ l, x15 (ix1 l) = 0) (h16 : ∀ k j, x16 (ix2 k j) = ((WK k j : ℝ) : EReal)) (h17 : ∀ l, x17 (ix1 l) = 0) (h18 : ∀ k j, x18 (ix2 k j) = ((WV k j : ℝ) : EReal)) (h19 : ∀ l, x19 (ix1 l) = 0) (h20 : ∀ k j, x20 (ix2 k j) = ((CP k j : ℝ) : EReal)) (h21 : ∀ l, x21 (ix1 l) = 0) (h22 : ∀ l, x22 (ix1 l) = 1) (h23 : ∀ l, x23 (ix1 l) = 0) (h25 : ∀ l, x25 (ix1 l) = 0) (h27 : ∀ l, x27 (ix1 l) = 0) (b : Fin 4) (r : Fin 512) (l : Fin 768) : val_main_v193 (F := Ideal) x0 x1 x4 x5 x6 x7 x8 x9 x10 x11 x12 x13 x14 x15 x16 x17 x18 x19 x20 x21 x22 x23 x24 x25 x26 x27 (ix3 b r l) = outE (caR (saR (X b) A AP) (Y b) WQ WK WV CP r) (fun k j => x24 (ix2 k j)) (fun k j => x26 (ix2 k j)) l := by
  have hs := r175 x0 x1 x4 x5 x6 x7 x8 x9 x10 x11 x12 x13 x14 x15 x16 x17 x18 x19 x20 x21 x22 x23 x24 x25 X Y A AP WQ WK WV CP h0 h1 h4 h5 h6 h7 h8 h9 h10 h11 h12 h13 h14 h15 h16 h17 h18 h19 h20 h21 h22 h23 h25
  have hx := r145 x0 x1 x4 x5 x6 x7 x8 x9 x10 x11 x12 x13 x14 x15 x16 x17 x18 x19 x20 x21 X Y A AP WQ WK WV CP h0 h1 h4 h5 h6 h7 h8 h9 h10 h11 h12 h13 h14 h15 h16 h17 h18 h19 h20 h21
  pointwise [val_main_v193, val_main_v192, val_main_v191, val_main_v190, val_main_v189, val_main_v188, val_main_v187, val_main_v186, val_main_cst_28, val_main_v185, val_main_v184, val_main_cst_27, val_main_v183, val_main_v182, val_main_v181, val_main_cst_26, val_main_v180, val_main_v179, val_main_v178, val_main_cst_25, val_main_v177, val_main_v176, hs, hx, h27]
  simp only [lit_cubic, lit_root, lit_half]
  unfold outE actE
  refine congrArg _ (Finset.sum_congr rfl fun j _ => ?_)
  rw [mul_comm (hidE _ _ j * hidE _ _ j) (hidE _ _ j)]

end Cert.ReferenceIdeal.Val

end
-- ==== Proof.Value.Pre.lean ====
module

public import proofs.«01_k».proof.Proof.Gen.Pre_as_initialised
public import proofs.«01_k».proof.Proof.Value.Real

@[expose] public section

set_option maxRecDepth 16384

noncomputable section

namespace Cert.Pre_as_initialised.Val

open Cert.Pre_as_initialised Cert.Pre_as_initialised.Gen Cert.Val
open Idealize.ShloMosaic

/-- Where the conjunction of two bits is one, both are. -/
theorem both_one (a b : BitVec 1) (h : a &&& b = 1#1) : a = 1#1 ∧ b = 1#1 := by
  revert a b; decide

/-- An entry whose absolute value is below the infinity is a real number. -/
theorem real_of_lt (a : Ideal .f32) (h : Ideal.cmp .olt (max a (-a)) (Ideal.ofBits .f32 0x7F800000#32) = 1#1) : ∃ r : ℝ, (show EReal from a) = ((r : ℝ) : EReal) := by
  have hi : Ideal.ofBits .f32 0x7F800000#32 = (⊤ : EReal) := by simp [Ideal.ofBits, Ideal.ieee]
  rw [hi] at h
  have hlt : max (show EReal from a) (-(show EReal from a)) < ⊤ := by
    by_contra hn
    simp [Ideal.cmp, hn] at h
  induction a using EReal.rec with
  | bot => simp at hlt
  | coe r => exact ⟨r, rfl⟩
  | top => simp at hlt

/-- Two numbers that compare equal are equal. -/
theorem eq_of_oeq (a b : Ideal .f32) (h : Ideal.cmp .oeq a b = 1#1) : (show EReal from a) = b := by
  by_contra hn
  simp [Ideal.cmp, hn] at h

/-- The word of 1 is one. -/
theorem lit_one : Ideal.ofBits .f32 0x3F800000#32 = (1 : EReal) := by
  simp [Ideal.ofBits, Ideal.ieee, -EReal.coe_mul]; norm_num
/-- The word of 0 is zero. -/
theorem lit_zero : Ideal.ofBits .f32 0x00000000#32 = (0 : EReal) := by
  simp [Ideal.ofBits, Ideal.ieee]

/-- The precondition's first part: every entry of `x` is a real number. -/
theorem pre0 (x0 : FVec Ideal S4x512x768 .f32) (x1 : FVec Ideal S4x1024x768 .f32) (x2 : IVec S4x512x2 32) (x3 : IVec S4x1024x2 32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (x22 : FVec Ideal S768 .f32) (x23 : FVec Ideal S768 .f32) (x24 : FVec Ideal S768x3072 .f32) (x25 : FVec Ideal S3072 .f32) (x26 : FVec Ideal S3072x768 .f32) (x27 : FVec Ideal S768 .f32)
    (h : (fn (F := Ideal) x0 x1 x2 x3 x4 x5 x6 x7 x8 x9 x10 x11 x12 x13 x14 x15 x16 x17 x18 x19 x20 x21 x22 x23 x24 x25 x26 x27).1 = fun _ => 1#1) :
    (∀ b r l, ∃ a : ℝ, (show EReal from x0 (ix3 b r l)) = ((a : ℝ) : EReal)) := by
  have g : ∀ b r l, (fn (F := Ideal) x0 x1 x2 x3 x4 x5 x6 x7 x8 x9 x10 x11 x12 x13 x14 x15 x16 x17 x18 x19 x20 x21 x22 x23 x24 x25 x26 x27).1 (ix3 b r l) = 1#1 := fun b r l => congrFun h _
  simp only [fn, fn_part1, fn_part2, fn_part3] at g
  exact fun b r l => real_of_lt _ (g b r l)

/-- Its second part: every entry of `y` is a real number. -/
theorem pre1 (x0 : FVec Ideal S4x512x768 .f32) (x1 : FVec Ideal S4x1024x768 .f32) (x2 : IVec S4x512x2 32) (x3 : IVec S4x1024x2 32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (x22 : FVec Ideal S768 .f32) (x23 : FVec Ideal S768 .f32) (x24 : FVec Ideal S768x3072 .f32) (x25 : FVec Ideal S3072 .f32) (x26 : FVec Ideal S3072x768 .f32) (x27 : FVec Ideal S768 .f32)
    (h : (fn (F := Ideal) x0 x1 x2 x3 x4 x5 x6 x7 x8 x9 x10 x11 x12 x13 x14 x15 x16 x17 x18 x19 x20 x21 x22 x23 x24 x25 x26 x27).2.1 = fun _ => 1#1) :
    (∀ b r l, ∃ a : ℝ, (show EReal from x1 (ix3 b r l)) = ((a : ℝ) : EReal)) := by
  have g : ∀ b r l, (fn (F := Ideal) x0 x1 x2 x3 x4 x5 x6 x7 x8 x9 x10 x11 x12 x13 x14 x15 x16 x17 x18 x19 x20 x21 x22 x23 x24 x25 x26 x27).2.1 (ix3 b r l) = 1#1 := fun b r l => congrFun h _
  simp only [fn, fn_part1, fn_part2, fn_part3] at g
  exact fun b r l => real_of_lt _ (g b r l)

/-- Its third part: every entry of the fused attention weight is a real number. -/
theorem pre2 (x0 : FVec Ideal S4x512x768 .f32) (x1 : FVec Ideal S4x1024x768 .f32) (x2 : IVec S4x512x2 32) (x3 : IVec S4x1024x2 32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (x22 : FVec Ideal S768 .f32) (x23 : FVec Ideal S768 .f32) (x24 : FVec Ideal S768x3072 .f32) (x25 : FVec Ideal S3072 .f32) (x26 : FVec Ideal S3072x768 .f32) (x27 : FVec Ideal S768 .f32)
    (h : (fn (F := Ideal) x0 x1 x2 x3 x4 x5 x6 x7 x8 x9 x10 x11 x12 x13 x14 x15 x16 x17 x18 x19 x20 x21 x22 x23 x24 x25 x26 x27).2.2.1 = fun _ => 1#1) :
    (∀ k j, ∃ a : ℝ, (show EReal from x6 (ix2 k j)) = ((a : ℝ) : EReal)) := by
  have g : ∀ k j, (fn (F := Ideal) x0 x1 x2 x3 x4 x5 x6 x7 x8 x9 x10 x11 x12 x13 x14 x15 x16 x17 x18 x19 x20 x21 x22 x23 x24 x25 x26 x27).2.2.1 (ix2 k j) = 1#1 := fun k j => congrFun h _
  simp only [fn, fn_part1, fn_part2, fn_part3] at g
  exact fun k j => real_of_lt _ (g k j)

/-- Its fourth part: every entry of the other five attention weights is a real number. -/
theorem pre3 (x0 : FVec Ideal S4x512x768 .f32) (x1 : FVec Ideal S4x1024x768 .f32) (x2 : IVec S4x512x2 32) (x3 : IVec S4x1024x2 32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (x22 : FVec Ideal S768 .f32) (x23 : FVec Ideal S768 .f32) (x24 : FVec Ideal S768x3072 .f32) (x25 : FVec Ideal S3072 .f32) (x26 : FVec Ideal S3072x768 .f32) (x27 : FVec Ideal S768 .f32)
    (h : (fn (F := Ideal) x0 x1 x2 x3 x4 x5 x6 x7 x8 x9 x10 x11 x12 x13 x14 x15 x16 x17 x18 x19 x20 x21 x22 x23 x24 x25 x26 x27).2.2.2.1 = fun _ => 1#1) :
    (∀ k j, ∃ a : ℝ, (show EReal from x8 (ix2 k j)) = ((a : ℝ) : EReal))
      ∧ (∀ k j, ∃ a : ℝ, (show EReal from x14 (ix2 k j)) = ((a : ℝ) : EReal))
      ∧ (∀ k j, ∃ a : ℝ, (show EReal from x16 (ix2 k j)) = ((a : ℝ) : EReal))
      ∧ (∀ k j, ∃ a : ℝ, (show EReal from x18 (ix2 k j)) = ((a : ℝ) : EReal))
      ∧ (∀ k j, ∃ a : ℝ, (show EReal from x20 (ix2 k j)) = ((a : ℝ) : EReal)) := by
  have g : ∀ k j, (fn (F := Ideal) x0 x1 x2 x3 x4 x5 x6 x7 x8 x9 x10 x11 x12 x13 x14 x15 x16 x17 x18 x19 x20 x21 x22 x23 x24 x25 x26 x27).2.2.2.1 (ix2 k j) = 1#1 := fun k j => congrFun h _
  simp only [fn, fn_part1, fn_part2, fn_part3] at g
  exact ⟨fun k j => real_of_lt _ ((both_one _ _ ((both_one _ _ ((both_one _ _ ((both_one _ _ (g k j)).1)).1)).1)).1),
    fun k j => real_of_lt _ ((both_one _ _ ((both_one _ _ ((both_one _ _ ((both_one _ _ (g k j)).1)).1)).1)).2),
    fun k j => real_of_lt _ ((both_one _ _ ((both_one _ _ ((both_one _ _ (g k j)).1)).1)).2),
    fun k j => real_of_lt _ ((both_one _ _ ((both_one _ _ (g k j)).1)).2),
    fun k j => real_of_lt _ ((both_one _ _ (g k j)).2)⟩

/-- Its fifth part: the layer norms' gains are one. -/
theorem pre4 (x0 : FVec Ideal S4x512x768 .f32) (x1 : FVec Ideal S4x1024x768 .f32) (x2 : IVec S4x512x2 32) (x3 : IVec S4x1024x2 32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (x22 : FVec Ideal S768 .f32) (x23 : FVec Ideal S768 .f32) (x24 : FVec Ideal S768x3072 .f32) (x25 : FVec Ideal S3072 .f32) (x26 : FVec Ideal S3072x768 .f32) (x27 : FVec Ideal S768 .f32)
    (h : (fn (F := Ideal) x0 x1 x2 x3 x4 x5 x6 x7 x8 x9 x10 x11 x12 x13 x14 x15 x16 x17 x18 x19 x20 x21 x22 x23 x24 x25 x26 x27).2.2.2.2.1 = fun _ => 1#1) :
    (∀ l, (show EReal from x4 (ix1 l)) = 1)
      ∧ (∀ l, (show EReal from x10 (ix1 l)) = 1)
      ∧ (∀ l, (show EReal from x12 (ix1 l)) = 1)
      ∧ (∀ l, (show EReal from x22 (ix1 l)) = 1) := by
  have g : ∀ l, (fn (F := Ideal) x0 x1 x2 x3 x4 x5 x6 x7 x8 x9 x10 x11 x12 x13 x14 x15 x16 x17 x18 x19 x20 x21 x22 x23 x24 x25 x26 x27).2.2.2.2.1 (ix1 l) = 1#1 := fun l => congrFun h _
  simp only [fn, fn_part1, fn_part2, fn_part3] at g
  exact ⟨fun l => (eq_of_oeq _ _ ((both_one _ _ ((both_one _ _ ((both_one _ _ (g l)).1)).1)).1)).trans lit_one,
    fun l => (eq_of_oeq _ _ ((both_one _ _ ((both_one _ _ ((both_one _ _ (g l)).1)).1)).2)).trans lit_one,
    fun l => (eq_of_oeq _ _ ((both_one _ _ ((both_one _ _ (g l)).1)).2)).trans lit_one,
    fun l => (eq_of_oeq _ _ ((both_one _ _ (g l)).2)).trans lit_one⟩

/-- Its sixth part: the biases of length 768 are zero. -/
theorem pre5 (x0 : FVec Ideal S4x512x768 .f32) (x1 : FVec Ideal S4x1024x768 .f32) (x2 : IVec S4x512x2 32) (x3 : IVec S4x1024x2 32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (x22 : FVec Ideal S768 .f32) (x23 : FVec Ideal S768 .f32) (x24 : FVec Ideal S768x3072 .f32) (x25 : FVec Ideal S3072 .f32) (x26 : FVec Ideal S3072x768 .f32) (x27 : FVec Ideal S768 .f32)
    (h : (fn (F := Ideal) x0 x1 x2 x3 x4 x5 x6 x7 x8 x9 x10 x11 x12 x13 x14 x15 x16 x17 x18 x19 x20 x21 x22 x23 x24 x25 x26 x27).2.2.2.2.2.1 = fun _ => 1#1) :
    (∀ l, (show EReal from x5 (ix1 l)) = 0)
      ∧ (∀ l, (show EReal from x9 (ix1 l)) = 0)
      ∧ (∀ l, (show EReal from x11 (ix1 l)) = 0)
      ∧ (∀ l, (show EReal from x13 (ix1 l)) = 0)
      ∧ (∀ l, (show EReal from x15 (ix1 l)) = 0)
      ∧ (∀ l, (show EReal from x17 (ix1 l)) = 0)
      ∧ (∀ l, (show EReal from x19 (ix1 l)) = 0)
      ∧ (∀ l, (show EReal from x21 (ix1 l)) = 0)
      ∧ (∀ l, (show EReal from x23 (ix1 l)) = 0)
      ∧ (∀ l, (show EReal from x27 (ix1 l)) = 0) := by
  have g : ∀ l, (fn (F := Ideal) x0 x1 x2 x3 x4 x5 x6 x7 x8 x9 x10 x11 x12 x13 x14 x15 x16 x17 x18 x19 x20 x21 x22 x23 x24 x25 x26 x27).2.2.2.2.2.1 (ix1 l) = 1#1 := fun l => congrFun h _
  simp only [fn, fn_part1, fn_part2, fn_part3] at g
  exact ⟨fun l => (eq_of_oeq _ _ ((both_one _ _ ((both_one _ _ ((both_one _ _ ((both_one _ _ ((both_one _ _ ((both_one _ _ ((both_one _ _ ((both_one _ _ ((both_one _ _ (g l)).1)).1)).1)).1)).1)).1)).1)).1)).1)).trans lit_zero,
    fun l => (eq_of_oeq _ _ ((both_one _ _ ((both_one _ _ ((both_one _ _ ((both_one _ _ ((both_one _ _ ((both_one _ _ ((both_one _ _ ((both_one _ _ ((both_one _ _ (g l)).1)).1)).1)).1)).1)).1)).1)).1)).2)).trans lit_zero,
    fun l => (eq_of_oeq _ _ ((both_one _ _ ((both_one _ _ ((both_one _ _ ((both_one _ _ ((both_one _ _ ((both_one _ _ ((both_one _ _ ((both_one _ _ (g l)).1)).1)).1)).1)).1)).1)).1)).2)).trans lit_zero,
    fun l => (eq_of_oeq _ _ ((both_one _ _ ((both_one _ _ ((both_one _ _ ((both_one _ _ ((both_one _ _ ((both_one _ _ ((both_one _ _ (g l)).1)).1)).1)).1)).1)).1)).2)).trans lit_zero,
    fun l => (eq_of_oeq _ _ ((both_one _ _ ((both_one _ _ ((both_one _ _ ((both_one _ _ ((both_one _ _ ((both_one _ _ (g l)).1)).1)).1)).1)).1)).2)).trans lit_zero,
    fun l => (eq_of_oeq _ _ ((both_one _ _ ((both_one _ _ ((both_one _ _ ((both_one _ _ ((both_one _ _ (g l)).1)).1)).1)).1)).2)).trans lit_zero,
    fun l => (eq_of_oeq _ _ ((both_one _ _ ((both_one _ _ ((both_one _ _ ((both_one _ _ (g l)).1)).1)).1)).2)).trans lit_zero,
    fun l => (eq_of_oeq _ _ ((both_one _ _ ((both_one _ _ ((both_one _ _ (g l)).1)).1)).2)).trans lit_zero,
    fun l => (eq_of_oeq _ _ ((both_one _ _ ((both_one _ _ (g l)).1)).2)).trans lit_zero,
    fun l => (eq_of_oeq _ _ ((both_one _ _ (g l)).2)).trans lit_zero⟩

/-- Its seventh part: the fused weight's bias is zero. -/
theorem pre6 (x0 : FVec Ideal S4x512x768 .f32) (x1 : FVec Ideal S4x1024x768 .f32) (x2 : IVec S4x512x2 32) (x3 : IVec S4x1024x2 32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (x22 : FVec Ideal S768 .f32) (x23 : FVec Ideal S768 .f32) (x24 : FVec Ideal S768x3072 .f32) (x25 : FVec Ideal S3072 .f32) (x26 : FVec Ideal S3072x768 .f32) (x27 : FVec Ideal S768 .f32)
    (h : (fn (F := Ideal) x0 x1 x2 x3 x4 x5 x6 x7 x8 x9 x10 x11 x12 x13 x14 x15 x16 x17 x18 x19 x20 x21 x22 x23 x24 x25 x26 x27).2.2.2.2.2.2.1 = fun _ => 1#1) :
    (∀ l, (show EReal from x7 (ix1 l)) = 0) := by
  have g : ∀ l, (fn (F := Ideal) x0 x1 x2 x3 x4 x5 x6 x7 x8 x9 x10 x11 x12 x13 x14 x15 x16 x17 x18 x19 x20 x21 x22 x23 x24 x25 x26 x27).2.2.2.2.2.2.1 (ix1 l) = 1#1 := fun l => congrFun h _
  simp only [fn, fn_part1, fn_part2, fn_part3] at g
  exact fun l => (eq_of_oeq _ _ (g l)).trans lit_zero

/-- Its eighth part: the bias of the MLP's first product is zero. -/
theorem pre7 (x0 : FVec Ideal S4x512x768 .f32) (x1 : FVec Ideal S4x1024x768 .f32) (x2 : IVec S4x512x2 32) (x3 : IVec S4x1024x2 32) (x4 : FVec Ideal S768 .f32) (x5 : FVec Ideal S768 .f32) (x6 : FVec Ideal S768x2304 .f32) (x7 : FVec Ideal S2304 .f32) (x8 : FVec Ideal S768x768 .f32) (x9 : FVec Ideal S768 .f32) (x10 : FVec Ideal S768 .f32) (x11 : FVec Ideal S768 .f32) (x12 : FVec Ideal S768 .f32) (x13 : FVec Ideal S768 .f32) (x14 : FVec Ideal S768x768 .f32) (x15 : FVec Ideal S768 .f32) (x16 : FVec Ideal S768x768 .f32) (x17 : FVec Ideal S768 .f32) (x18 : FVec Ideal S768x768 .f32) (x19 : FVec Ideal S768 .f32) (x20 : FVec Ideal S768x768 .f32) (x21 : FVec Ideal S768 .f32) (x22 : FVec Ideal S768 .f32) (x23 : FVec Ideal S768 .f32) (x24 : FVec Ideal S768x3072 .f32) (x25 : FVec Ideal S3072 .f32) (x26 : FVec Ideal S3072x768 .f32) (x27 : FVec Ideal S768 .f32)
    (h : (fn (F := Ideal) x0 x1 x2 x3 x4 x5 x6 x7 x8 x9 x10 x11 x12 x13 x14 x15 x16 x17 x18 x19 x20 x21 x22 x23 x24 x25 x26 x27).2.2.2.2.2.2.2 = fun _ => 1#1) :
    (∀ l, (show EReal from x25 (ix1 l)) = 0) := by
  have g : ∀ l, (fn (F := Ideal) x0 x1 x2 x3 x4 x5 x6 x7 x8 x9 x10 x11 x12 x13 x14 x15 x16 x17 x18 x19 x20 x21 x22 x23 x24 x25 x26 x27).2.2.2.2.2.2.2 (ix1 l) = 1#1 := fun l => congrFun h _
  simp only [fn, fn_part1, fn_part2, fn_part3] at g
  exact fun l => (eq_of_oeq _ _ (g l)).trans lit_zero

end Cert.Pre_as_initialised.Val

end
-- ==== Proof.Value.Meet.lean ====
module

public import proofs.«01_k».proof.Defs
public import proofs.«01_k».proof.Proof.Value.Final
public import proofs.«01_k».proof.Proof.Value.Ref
public import proofs.«01_k».proof.Proof.Value.Pre
public import proofs.«01_k».proof.Proof.Gen.ReferenceIdeal.Run

@[expose] public section

set_option maxRecDepth 16384

noncomputable section

namespace Cert.Proof

open Idealize.ShloMosaic Idealize.SL.Sem

/-- What the reference computes of the kernel's own arguments. -/
def refOf (m : (ℓ : Loc Cert.KernelIdeal.nD Cert.KernelIdeal.τ Cert.KernelIdeal.sig) → Buf (Elt Ideal) ℓ) (c : Dev Cert.KernelIdeal.nD) : FVec Ideal Cert.ReferenceIdeal.S4x512x768 .f32 :=
  Cert.ReferenceIdeal.Read.val_main_v193 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))

/-- Where the precondition holds, every entry the kernel stores is the reference's. -/
theorem entries_meet (m : (ℓ : Loc Cert.KernelIdeal.nD Cert.KernelIdeal.τ Cert.KernelIdeal.sig) → Buf (Elt Ideal) ℓ)
    (hp : Cert.Pre_KernelIdeal_as_initialised (hPre_as_initialised := Cert.Pre_as_initialised.Gen.facts) m) (c : Dev Cert.KernelIdeal.nD)
    (t : Fin Cert.KernelIdeal.cfg0.N) (b : Fin 4) (r : Fin 512) (l : Fin 768) (hb : (b : ℕ) = t.val) :
    Cert.KernelIdeal.Hand.outAt (F := Ideal) m c t (ix3 0 r l) = refOf m c (ix3 b r l) := by
  obtain ⟨p0, p1, p2, p3, p4, p5, p6, p7⟩ := hp c
  have q0 := Cert.Pre_as_initialised.Val.pre0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) p0
  have q1 := Cert.Pre_as_initialised.Val.pre1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) p1
  have q2 := Cert.Pre_as_initialised.Val.pre2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) p2
  have q3 := Cert.Pre_as_initialised.Val.pre3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) p3
  have q4 := Cert.Pre_as_initialised.Val.pre4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) p4
  have q5 := Cert.Pre_as_initialised.Val.pre5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) p5
  have q6 := Cert.Pre_as_initialised.Val.pre6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) p6
  have q7 := Cert.Pre_as_initialised.Val.pre7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) p7
  obtain ⟨q8, q14, q16, q18, q20⟩ := q3
  obtain ⟨h4, h10, h12, h22⟩ := q4
  obtain ⟨h5, h9, h11, h13, h15, h17, h19, h21, h23, h27⟩ := q5
  choose X h0 using q0
  choose Y h1 using q1
  choose A h6 using q2
  choose AP h8 using q8
  choose WQ h14 using q14
  choose WK h16 using q16
  choose WV h18 using q18
  choose CP h20 using q20
  refine (Cert.KernelIdeal.Val.outAt_real m c t b hb X Y A AP WQ WK WV CP h0 h1 h6 h8 h14 h16 h18 h20 r l).trans ?_
  exact (Cert.ReferenceIdeal.Val.r193 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) X Y A AP WQ WK WV CP h0 h1 h4 h5 h6 q6 h8 h9 h10 h11 h12 h13 h14 h15 h16 h17 h18 h19 h20 h21 h22 h23 q7 h27 b r l).symm

/-- The kernel's result is the reference's. -/
theorem meet : Cert.algebraic_KernelIdeal_ReferenceIdeal_pre_as_initialised (hKernelIdeal := Cert.KernelIdeal.Gen.facts)
    (hReferenceIdeal := Cert.ReferenceIdeal.Gen.facts) (hPre_as_initialised := Cert.Pre_as_initialised.Gen.facts) := by
  intro m g m' g' hp hm
  refine ⟨fun c => refOf m c, ?_, ?_⟩
  · exact (θ_run Cert.KernelIdeal.defs _ _).mono (fun r h c => ⟨(h c).1.trans
      (Cert.KernelIdeal.Val.final m c (refOf m c) (fun t b r l hb => entries_meet m hp c t b r l hb)), (h c).2⟩) (Cert.KernelIdeal.Hand.value_run m g)
  · refine (θ_run Cert.ReferenceIdeal.defs _ _).mono (fun r h c => ⟨((h c).1.trans (Cert.ReferenceIdeal.Read.val_main_v193_eq (StableHlo.launchContents m' c))).trans ?_, (h c).2⟩) (Cert.ReferenceIdeal.Value.run (F := Ideal) m' g')
    obtain ⟨a0, a1, a2, a3, a4, a5, a6, a7, a8, a9, a10, a11, a12, a13, a14, a15, a16, a17, a18, a19, a20, a21, a22, a23, a24, a25, a26, a27⟩ := hm c
    have e : ∀ y0 y1 y4 y5 y6 y7 y8 y9 y10 y11 y12 y13 y14 y15 y16 y17 y18 y19 y20 y21 y22 y23 y24 y25 y26 y27, y0 = (m ((c.tc : Thread Cert.KernelIdeal.nD Cert.KernelIdeal.τ).loc Cert.KernelIdeal.main_arg0)) → y1 = (m ((c.tc : Thread Cert.KernelIdeal.nD Cert.KernelIdeal.τ).loc Cert.KernelIdeal.main_arg1)) → y4 = (m ((c.tc : Thread Cert.KernelIdeal.nD Cert.KernelIdeal.τ).loc Cert.KernelIdeal.main_arg4)) → y5 = (m ((c.tc : Thread Cert.KernelIdeal.nD Cert.KernelIdeal.τ).loc Cert.KernelIdeal.main_arg5)) → y6 = (m ((c.tc : Thread Cert.KernelIdeal.nD Cert.KernelIdeal.τ).loc Cert.KernelIdeal.main_arg6)) → y7 = (m ((c.tc : Thread Cert.KernelIdeal.nD Cert.KernelIdeal.τ).loc Cert.KernelIdeal.main_arg7)) → y8 = (m ((c.tc : Thread Cert.KernelIdeal.nD Cert.KernelIdeal.τ).loc Cert.KernelIdeal.main_arg8)) → y9 = (m ((c.tc : Thread Cert.KernelIdeal.nD Cert.KernelIdeal.τ).loc Cert.KernelIdeal.main_arg9)) → y10 = (m ((c.tc : Thread Cert.KernelIdeal.nD Cert.KernelIdeal.τ).loc Cert.KernelIdeal.main_arg10)) → y11 = (m ((c.tc : Thread Cert.KernelIdeal.nD Cert.KernelIdeal.τ).loc Cert.KernelIdeal.main_arg11)) → y12 = (m ((c.tc : Thread Cert.KernelIdeal.nD Cert.KernelIdeal.τ).loc Cert.KernelIdeal.main_arg12)) → y13 = (m ((c.tc : Thread Cert.KernelIdeal.nD Cert.KernelIdeal.τ).loc Cert.KernelIdeal.main_arg13)) → y14 = (m ((c.tc : Thread Cert.KernelIdeal.nD Cert.KernelIdeal.τ).loc Cert.KernelIdeal.main_arg14)) → y15 = (m ((c.tc : Thread Cert.KernelIdeal.nD Cert.KernelIdeal.τ).loc Cert.KernelIdeal.main_arg15)) → y16 = (m ((c.tc : Thread Cert.KernelIdeal.nD Cert.KernelIdeal.τ).loc Cert.KernelIdeal.main_arg16)) → y17 = (m ((c.tc : Thread Cert.KernelIdeal.nD Cert.KernelIdeal.τ).loc Cert.KernelIdeal.main_arg17)) → y18 = (m ((c.tc : Thread Cert.KernelIdeal.nD Cert.KernelIdeal.τ).loc Cert.KernelIdeal.main_arg18)) → y19 = (m ((c.tc : Thread Cert.KernelIdeal.nD Cert.KernelIdeal.τ).loc Cert.KernelIdeal.main_arg19)) → y20 = (m ((c.tc : Thread Cert.KernelIdeal.nD Cert.KernelIdeal.τ).loc Cert.KernelIdeal.main_arg20)) → y21 = (m ((c.tc : Thread Cert.KernelIdeal.nD Cert.KernelIdeal.τ).loc Cert.KernelIdeal.main_arg21)) → y22 = (m ((c.tc : Thread Cert.KernelIdeal.nD Cert.KernelIdeal.τ).loc Cert.KernelIdeal.main_arg22)) → y23 = (m ((c.tc : Thread Cert.KernelIdeal.nD Cert.KernelIdeal.τ).loc Cert.KernelIdeal.main_arg23)) → y24 = (m ((c.tc : Thread Cert.KernelIdeal.nD Cert.KernelIdeal.τ).loc Cert.KernelIdeal.main_arg24)) → y25 = (m ((c.tc : Thread Cert.KernelIdeal.nD Cert.KernelIdeal.τ).loc Cert.KernelIdeal.main_arg25)) → y26 = (m ((c.tc : Thread Cert.KernelIdeal.nD Cert.KernelIdeal.τ).loc Cert.KernelIdeal.main_arg26)) → y27 = (m ((c.tc : Thread Cert.KernelIdeal.nD Cert.KernelIdeal.τ).loc Cert.KernelIdeal.main_arg27)) →
        Cert.ReferenceIdeal.Read.val_main_v193 (F := Ideal) y0 y1 y4 y5 y6 y7 y8 y9 y10 y11 y12 y13 y14 y15 y16 y17 y18 y19 y20 y21 y22 y23 y24 y25 y26 y27 = refOf m c := by
      intro y0 y1 y4 y5 y6 y7 y8 y9 y10 y11 y12 y13 y14 y15 y16 y17 y18 y19 y20 y21 y22 y23 y24 y25 y26 y27 e0 e1 e4 e5 e6 e7 e8 e9 e10 e11 e12 e13 e14 e15 e16 e17 e18 e19 e20 e21 e22 e23 e24 e25 e26 e27
      subst e0 e1 e4 e5 e6 e7 e8 e9 e10 e11 e12 e13 e14 e15 e16 e17 e18 e19 e20 e21 e22 e23 e24 e25 e26 e27
      rfl
    exact e _ _ _ _ _ _ _ _ _ _ _ _ _ _ _ _ _ _ _ _ _ _ _ _ _ _ a0 a1 a4 a5 a6 a7 a8 a9 a10 a11 a12 a13 a14 a15 a16 a17 a18 a19 a20 a21 a22 a23 a24 a25 a26 a27

end Cert.Proof

end
-- ==== Proof.lean ====
module

public import proofs.«01_k».proof.Defs
public import proofs.«01_k».proof.Proof.Frames
public import proofs.«01_k».proof.Proof.Value.Meet
public import proofs.«01_k».proof.Proof.Gen.Pre_as_initialised

@[expose] public section

noncomputable section

namespace Cert.Proof

open Idealize.ShloMosaic Idealize.SL.Sem

/-- The three frames (with and without the precondition), the named constants, and the equality of the two results. -/
theorem claim : Cert.Claim := ⟨Cert.Kernel.Gen.facts, Cert.KernelIdeal.Gen.facts, Cert.ReferenceIdeal.Gen.facts, Cert.Pre_as_initialised.Gen.facts,
  frame_kernel,
  frame_ideal,
  fun m ρ _ => Cert.KernelIdeal.Hand.frame m ρ,
  frame_reference,
  fun m ρ _ => frame_reference m ρ trivial,
  names_kept,
  meet⟩

end Cert.Proof

end
